-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S512x32x16x16 : Shape := ⟨4, ![512, 32, 16, 16]⟩
abbrev S4096x32x16x16 : Shape := ⟨4, ![4096, 32, 16, 16]⟩
abbrev S512x2 : Shape := ⟨2, ![512, 2]⟩
abbrev S4096x2 : Shape := ⟨2, ![4096, 2]⟩
abbrev S_ : Shape := ⟨0, ![]⟩

class Facts : Prop where
  bcast_S_S512x32x16x16 : S_.BroadcastsInDim S512x32x16x16 (![] : Fin 0 → Fin S512x32x16x16.rank)
  reducesTo_S512x32x16x16_S_d0_1_2_3 : S512x32x16x16.ReducesTo [0, 1, 2, 3] S_
  h_S_ : 0 < S_.numel
  bcast_S_S4096x32x16x16 : S_.BroadcastsInDim S4096x32x16x16 (![] : Fin 0 → Fin S4096x32x16x16.rank)
  reducesTo_S4096x32x16x16_S_d0_1_2_3 : S4096x32x16x16.ReducesTo [0, 1, 2, 3] S_
  bcast_S_S512x2 : S_.BroadcastsInDim S512x2 (![] : Fin 0 → Fin S512x2.rank)
  reducesTo_S512x2_S_d0_1 : S512x2.ReducesTo [0, 1] S_
  bcast_S_S4096x2 : S_.BroadcastsInDim S4096x2 (![] : Fin 0 → Fin S4096x2.rank)
  reducesTo_S4096x2_S_d0_1 : S4096x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x32x16x16 .f32) (main_arg1 : FVec F S4096x32x16x16 .f32) (main_arg2 : IVec S512x2 32) (main_arg3 : IVec S4096x2 32) : IVec S_ 1 :=
  let main_v0 : FVec F S512x32x16x16 .f32 := Host.absf main_arg0
  let main_cst : FVec F S_ .f32 := constant S_ .f32 0x7F800000#32
  let main_v1 : FVec F S512x32x16x16 .f32 := broadcastInDim S512x32x16x16 ![] bcast_S_S512x32x16x16 main_cst
  let main_v2 : IVec S512x32x16x16 1 := cmpf .olt main_v0 main_v1
  let main_c : IVec S_ 1 := constantI S_ 1 1#1
  let main_v3 : IVec S_ 1 := (fun x v => Host.reduce IntOp.andi x v reducesTo_S512x32x16x16_S_d0_1_2_3 h_S_) main_v2 main_c
  let main_v4 : FVec F S4096x32x16x16 .f32 := Host.absf main_arg1
  let main_cst_0 : FVec F S_ .f32 := constant S_ .f32 0x7F800000#32
  let main_v5 : FVec F S4096x32x16x16 .f32 := broadcastInDim S4096x32x16x16 ![] bcast_S_S4096x32x16x16 main_cst_0
  let main_v6 : IVec S4096x32x16x16 1 := cmpf .olt main_v4 main_v5
  let main_c_1 : IVec S_ 1 := constantI S_ 1 1#1
  let main_v7 : IVec S_ 1 := (fun x v => Host.reduce IntOp.andi x v reducesTo_S4096x32x16x16_S_d0_1_2_3 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 1 := constantI S_ 1 1#1
  let main_v11 : IVec S_ 1 := (fun x v => Host.reduce IntOp.andi x v reducesTo_S512x2_S_d0_1 h_S_) main_v10 main_c_3
  let main_v12 : IVec S_ 1 := andi main_v8 main_v11
  let main_c_4 : IVec S_ 32 := constantI S_ 32 0#32
  let main_v13 : IVec S4096x2 32 := broadcastInDim S4096x2 ![] bcast_S_S4096x2 main_c_4
  let main_v14 : IVec S4096x2 1 := cmpi .sge main_arg3 main_v13
  let main_c_5 : IVec S_ 1 := constantI S_ 1 1#1
  let main_v15 : IVec S_ 1 := (fun x v => Host.reduce IntOp.andi x v reducesTo_S4096x2_S_d0_1 h_S_) main_v14 main_c_5
  fn_part1 (F := F) main_v12 main_v15
-- ==== Kernel.lean ====
abbrev S512x32x16x16 : Shape := ⟨4, ![512, 32, 16, 16]⟩
abbrev S4096x32x16x16 : Shape := ⟨4, ![4096, 32, 16, 16]⟩
abbrev S512x2 : Shape := ⟨2, ![512, 2]⟩
abbrev S4096x2 : Shape := ⟨2, ![4096, 2]⟩
abbrev S32x16x16x512 : Shape := ⟨4, ![32, 16, 16, 512]⟩
abbrev S8192x512 : Shape := ⟨2, ![8192, 512]⟩
abbrev S32x16x16x4096 : Shape := ⟨4, ![32, 16, 16, 4096]⟩
abbrev S8192x4096 : Shape := ⟨2, ![8192, 4096]⟩
abbrev S2x512 : Shape := ⟨2, ![2, 512]⟩
abbrev S2x4096 : Shape := ⟨2, ![2, 4096]⟩
abbrev S512x4 : Shape := ⟨2, ![512, 4]⟩
abbrev S2048x1024 : Shape := ⟨2, ![2048, 1024]⟩
abbrev S512x4096 : Shape := ⟨2, ![512, 4096]⟩
abbrev S1x4096 : Shape := ⟨2, ![1, 4096]⟩
abbrev S2048x512 : Shape := ⟨2, ![2048, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x512 : Shape := ⟨2, ![512, 512]⟩
abbrev S1x512 : Shape := ⟨2, ![1, 512]⟩

abbrev nBuf : Space → Nat
  | .hbm => 22
  | .vmem => 9
  | .smem => 0
  | _ => 0

abbrev bufTy : (tb : Table) → Fin (tcTables nBuf tb) → BufTy
  | .hbm, ⟨0, _⟩ => ⟨S512x32x16x16, .f32⟩
  | .hbm, ⟨1, _⟩ => ⟨S4096x32x16x16, .f32⟩
  | .hbm, ⟨2, _⟩ => ⟨S512x2, .i32⟩
  | .hbm, ⟨3, _⟩ => ⟨S4096x2, .i32⟩
  | .hbm, ⟨4, _⟩ => ⟨S32x16x16x512, .f32⟩
  | .hbm, ⟨5, _⟩ => ⟨S8192x512, .f32⟩
  | .hbm, ⟨6, _⟩ => ⟨S32x16x16x4096, .f32⟩
  | .hbm, ⟨7, _⟩ => ⟨S8192x4096, .f32⟩
  | .hbm, ⟨8, _⟩ => ⟨S512x2, .f32⟩
  | .hbm, ⟨9, _⟩ => ⟨S2x512, .f32⟩
  | .hbm, ⟨10, _⟩ => ⟨S4096x2, .f32⟩
  | .hbm, ⟨11, _⟩ => ⟨S2x4096, .f32⟩
  | .hbm, ⟨12, _⟩ => ⟨S512x4, .f32⟩
  | .hbm, ⟨13, _⟩ => ⟨S512x1, .f32⟩
  | .hbm, ⟨14, _⟩ => ⟨S512, .f32⟩
  | .hbm, ⟨15, _⟩ => ⟨S512x1, .f32⟩
  | .hbm, ⟨16, _⟩ => ⟨S512, .f32⟩
  | .hbm, ⟨17, _⟩ => ⟨S512x1, .f32⟩
  | .hbm, ⟨18, _⟩ => ⟨S512, .f32⟩
  | .hbm, ⟨19, _⟩ => ⟨S512x1, .f32⟩
  | .hbm, ⟨20, _⟩ => ⟨S512, .f32⟩
  | .hbm, ⟨21, _⟩ => ⟨S512, .i32⟩
  | .local _ .vmem, ⟨0, _⟩ => ⟨S8192x512, .f32⟩
  | .local _ .vmem, ⟨1, _⟩ => ⟨S2048x1024, .f32⟩
  | .local _ .vmem, ⟨2, _⟩ => ⟨S2048x1024, .f32⟩
  | .local _ .vmem, ⟨3, _⟩ => ⟨S2x512, .f32⟩
  | .local _ .vmem, ⟨4, _⟩ => ⟨S2x4096, .f32⟩
  | .local _ .vmem, ⟨5, _⟩ => ⟨S512x4, .f32⟩
  | .local _ .vmem, ⟨6, _⟩ => ⟨S512x4096, .f32⟩
  | .local _ .vmem, ⟨7, _⟩ => ⟨S512x2, .f32⟩
  | .local _ .vmem, ⟨8, _⟩ => ⟨S1x4096, .i32⟩
  | _, _ => ⟨S512x32x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v2 : BitVec 1 := Scalar.cmpi .slt arg0 c16_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg0 : BitVec 32 := BitVec.ofNat 32 (i 0).val
  let c4_i32 : BitVec 32 := 4#32
  let v0 : BitVec 32 := Scalar.remsi arg0 c4_i32
  let c2048_i32 : BitVec 32 := 2048#32
  let v8 : BitVec 32 := Scalar.muli v0 c2048_i32
  let v9 : Index := Scalar.indexCast v8
  let c0 : Index := 0#32
  ![v9.toNat, 0]
def k0_cond2 (i : grid0.Coords) : BitVec 1 :=
  let arg0 : BitVec 32 := BitVec.ofNat 32 (i 0).val
  let c4_i32 : BitVec 32 := 4#32
  let v0 : BitVec 32 := Scalar.remsi arg0 c4_i32
  let c0_i32_5 : BitVec 32 := 0#32
  let v15 : BitVec 1 := Scalar.cmpi .eq v0 c0_i32_5
  let v16 : BitVec 32 := Scalar.extui v15
  let c0_i32_6 : BitVec 32 := 0#32
  let v17 : BitVec 1 := Scalar.cmpi .ne v16 c0_i32_6
  v17

def k0_off2 (i : grid0.Coords) : Fin 2 → Nat :=
  let c0_11 : Index := 0#32
  let arg0 : BitVec 32 := BitVec.ofNat 32 (i 0).val
  let c4_i32_0 : BitVec 32 := 4#32
  let v1 : BitVec 32 := Scalar.divsi arg0 c4_i32_0
  let c1024_i32 : BitVec 32 := 1024#32
  let v26 : BitVec 32 := Scalar.muli v1 c1024_i32
  let v27 : Index := Scalar.indexCast v26
  ![0, v27.toNat]
def k0_cond3 (i : grid0.Coords) : BitVec 1 :=
  let arg0 : BitVec 32 := BitVec.ofNat 32 (i 0).val
  let c4_i32 : BitVec 32 := 4#32
  let v0 : BitVec 32 := Scalar.remsi arg0 c4_i32
  let c0_i32_7 : BitVec 32 := 0#32
  let v18 : BitVec 1 := Scalar.cmpi .sgt v0 c0_i32_7
  let c3_i32 : BitVec 32 := 3#32
  let v19 : BitVec 1 := Scalar.cmpi .slt v0 c3_i32
  let v20 : BitVec 1 := Scalar.andi v18 v19
  let v21 : BitVec 32 := Scalar.extui v20
  let c0_i32_8 : BitVec 32 := 0#32
  let v22 : BitVec 1 := Scalar.cmpi .ne v21 c0_i32_8
  v22

def k0_off3 (i : grid0.Coords) : Fin 2 → Nat :=
  let c0_11 : Index := 0#32
  let arg0 : BitVec 32 := BitVec.ofNat 32 (i 0).val
  let c4_i32_0 : BitVec 32 := 4#32
  let v1 : BitVec 32 := Scalar.divsi arg0 c4_i32_0
  let c1024_i32 : BitVec 32 := 1024#32
  let v26 : BitVec 32 := Scalar.muli v1 c1024_i32
  let v27 : Index := Scalar.indexCast v26
  ![0, v27.toNat]
def k0_cond4 (i : grid0.Coords) : BitVec 1 :=
  let arg0 : BitVec 32 := BitVec.ofNat 32 (i 0).val
  let c4_i32 : BitVec 32 := 4#32
  let v0 : BitVec 32 := Scalar.remsi arg0 c4_i32
  let c3_i32_9 : BitVec 32 := 3#32
  let v23 : BitVec 1 := Scalar.cmpi .eq v0 c3_i32_9
  let v24 : BitVec 32 := Scalar.extui v23
  let c0_i32_10 : BitVec 32 := 0#32
  let v25 : BitVec 1 := Scalar.cmpi .ne v24 c0_i32_10
  v25

def k0_off4 (i : grid0.Coords) : Fin 2 → Nat :=
  let c0_11 : Index := 0#32
  let arg0 : BitVec 32 := BitVec.ofNat 32 (i 0).val
  let c4_i32_0 : BitVec 32 := 4#32
  let v1 : BitVec 32 := Scalar.divsi arg0 c4_i32_0
  let c1024_i32 : BitVec 32 := 1024#32
  let v26 : BitVec 32 := Scalar.muli v1 c1024_i32
  let v27 : Index := Scalar.indexCast v26
  ![0, v27.toNat]
def k0_off5 (i : grid0.Coords) : Fin 2 → Nat :=
  let c0_32 : Index := 0#32
  let arg0 : BitVec 32 := BitVec.ofNat 32 (i 0).val
  let c4_i32_0 : BitVec 32 := 4#32
  let v1 : BitVec 32 := Scalar.divsi arg0 c4_i32_0
  let c1024_i32_31 : BitVec 32 := 1024#32
  let v75 : BitVec 32 := Scalar.muli v1 c1024_i32_31
  let v76 : Index := Scalar.indexCast v75
  ![0, v76.toNat]
def k0_cond5 (i : grid0.Coords) : BitVec 1 :=
  let arg0 : BitVec 32 := BitVec.ofNat 32 (i 0).val
  let c16_i32_1 : BitVec 32 := 16#32
  let v5 : BitVec 1 := Scalar.cmpi .eq arg0 c16_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.remsi arg0 c4_i32
  let c4_i32_0 : BitVec 32 := 4#32
  let v1 : BitVec 32 := Scalar.divsi arg0 c4_i32_0
  let c3_i32 : BitVec 32 := 3#32
  let v2 : BitVec 32 := Scalar.minsi v1 c3_i32
  let c0_i32 : BitVec 32 := 0#32
  ![v0.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S512x32x16x16 : Shape := ⟨4, ![512, 32, 16, 16]⟩
abbrev S4096x32x16x16 : Shape := ⟨4, ![4096, 32, 16, 16]⟩
abbrev S512x2 : Shape := ⟨2, ![512, 2]⟩
abbrev S4096x2 : Shape := ⟨2, ![4096, 2]⟩
abbrev S512x4096 : Shape := ⟨2, ![512, 4096]⟩
abbrev S_ : Shape := ⟨0, ![]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x4096x2 : Shape := ⟨3, ![1, 4096, 2]⟩
abbrev S512x1x2 : Shape := ⟨3, ![512, 1, 2]⟩
abbrev S512x4096x2 : Shape := ⟨3, ![512, 4096, 2]⟩
abbrev S512x512 : Shape := ⟨2, ![512, 512]⟩

abbrev nBuf : Space → Nat
  | .hbm => 131
  | .vmem => 0
  | .smem => 0
  | _ => 0

abbrev hbmTy0_0 (i : Nat) : BufTy := match i % 128 with
  | 0 => ⟨S512x32x16x16, .f32⟩
  | 1 => ⟨S4096x32x16x16, .f32⟩
  | 2 => ⟨S512x2, .i32⟩
  | 3 => ⟨S4096x2, .i32⟩
  | 4 => ⟨S512x4096, .f32⟩
  | 5 => ⟨S_, .f32⟩
  | 6 => ⟨S512x4096, .f32⟩
  | 7 => ⟨S512x4096, .f32⟩
  | 8 => ⟨S_, .f32⟩
  | 9 => ⟨S512x4096, .f32⟩
  | 10 => ⟨S512x4096, .f32⟩
  | 11 => ⟨S_, .f32⟩
  | 12 => ⟨S512x4096, .f32⟩
  | 13 => ⟨S512x4096, .f32⟩
  | 14 => ⟨S512x4096, .i32⟩
  | 15 => ⟨S_, .f32⟩
  | 16 => ⟨S_, .i32⟩
  | 17 => ⟨S512, .f32⟩
  | 18 => ⟨S512, .i32⟩
  | 19 => ⟨S_, .f32⟩
  | 20 => ⟨S512, .f32⟩
  | 21 => ⟨S_, .i32⟩
  | 22 => ⟨S512, .i32⟩
  | 23 => ⟨S512, .i1⟩
  | 24 => ⟨S_, .i32⟩
  | 25 => ⟨S512, .i32⟩
  | 26 => ⟨S512, .i32⟩
  | 27 => ⟨S512, .i32⟩
  | 28 => ⟨S512x1, .i32⟩
  | 29 => ⟨S1, .i32⟩
  | 30 => ⟨S_, .i32⟩
  | 31 => ⟨S512x1, .i32⟩
  | 32 => ⟨S512x1, .i1⟩
  | 33 => ⟨S1x1, .i32⟩
  | 34 => ⟨S512x1, .i32⟩
  | 35 => ⟨S512x1, .i1⟩
  | 36 => ⟨S512x1, .i1⟩
  | 37 => ⟨S_, .i1⟩
  | 38 => ⟨S512, .i1⟩
  | 39 => ⟨S512x2, .i32⟩
  | 40 => ⟨S512x2, .i1⟩
  | 41 => ⟨S_, .i32⟩
  | 42 => ⟨S512x2, .i32⟩
  | 43 => ⟨S512x2, .i32⟩
  | 44 => ⟨S1x4096x2, .i32⟩
  | 45 => ⟨S1x4096x2, .f32⟩
  | 46 => ⟨S512x1x2, .i32⟩
  | 47 => ⟨S512x1x2, .f32⟩
  | 48 => ⟨S512x4096x2, .f32⟩
  | 49 => ⟨S512x4096x2, .f32⟩
  | 50 => ⟨S512x4096x2, .f32⟩
  | 51 => ⟨S512x4096x2, .f32⟩
  | 52 => ⟨S_, .f32⟩
  | 53 => ⟨S512x4096, .f32⟩
  | 54 => ⟨S_, .f32⟩
  | 55 => ⟨S512x4096, .f32⟩
  | 56 => ⟨S512x4096, .i1⟩
  | 57 => ⟨S_, .f32⟩
  | 58 => ⟨S_, .f32⟩
  | 59 => ⟨S512x4096, .f32⟩
  | 60 => ⟨S512x4096, .f32⟩
  | 61 => ⟨S_, .f32⟩
  | 62 => ⟨S512, .f32⟩
  | 63 => ⟨S512, .f32⟩
  | 64 => ⟨S_, .i32⟩
  | 65 => ⟨S512, .i32⟩
  | 66 => ⟨S512, .i1⟩
  | 67 => ⟨S_, .i32⟩
  | 68 => ⟨S512, .i32⟩
  | 69 => ⟨S512, .i32⟩
  | 70 => ⟨S512, .i32⟩
  | 71 => ⟨S512x1, .i32⟩
  | 72 => ⟨S1, .i32⟩
  | 73 => ⟨S_, .i32⟩
  | 74 => ⟨S512x1, .i32⟩
  | 75 => ⟨S512x1, .i1⟩
  | 76 => ⟨S1x1, .i32⟩
  | 77 => ⟨S512x1, .i32⟩
  | 78 => ⟨S512x1, .i1⟩
  | 79 => ⟨S512x1, .i1⟩
  | 80 => ⟨S_, .i1⟩
  | 81 => ⟨S512, .i1⟩
  | 82 => ⟨S512x32x16x16, .f32⟩
  | 83 => ⟨S512x32x16x16, .i1⟩
  | 84 => ⟨S_, .f32⟩
  | 85 => ⟨S512x32x16x16, .f32⟩
  | 86 => ⟨S512x32x16x16, .f32⟩
  | 87 => ⟨S512x512, .f32⟩
  | 88 => ⟨S_, .f32⟩
  | 89 => ⟨S512x512, .f32⟩
  | 90 => ⟨S512x512, .f32⟩
  | 91 => ⟨S_, .f32⟩
  | 92 => ⟨S512x512, .f32⟩
  | 93 => ⟨S512x512, .f32⟩
  | 94 => ⟨S_, .f32⟩
  | 95 => ⟨S512x512, .f32⟩
  | 96 => ⟨S512x512, .f32⟩
  | 97 => ⟨S512x512, .i32⟩
  | 98 => ⟨S_, .f32⟩
  | 99 => ⟨S_, .i32⟩
  | 100 => ⟨S512, .f32⟩
  | 101 => ⟨S512, .i32⟩
  | 102 => ⟨S_, .i32⟩
  | 103 => ⟨S512, .i32⟩
  | 104 => ⟨S512, .i1⟩
  | 105 => ⟨S_, .i32⟩
  | 106 => ⟨S512, .i32⟩
  | 107 => ⟨S512, .i32⟩
  | 108 => ⟨S512, .i32⟩
  | 109 => ⟨S512x1, .i32⟩
  | 110 => ⟨S1, .i32⟩
  | 111 => ⟨S_, .i32⟩
  | 112 => ⟨S512x1, .i32⟩
  | 113 => ⟨S512x1, .i1⟩
  | 114 => ⟨S1x1, .i32⟩
  | 115 => ⟨S512x1, .i32⟩
  | 116 => ⟨S512x1, .i1⟩
  | 117 => ⟨S512x1, .i1⟩
  | 118 => ⟨S_, .i1⟩
  | 119 => ⟨S512, .i1⟩
  | 120 => ⟨S512x2, .i32⟩
  | 121 => ⟨S512x2, .i1⟩
  | 122 => ⟨S_, .i32⟩
  | 123 => ⟨S512x2, .i32⟩
  | 124 => ⟨S512x2, .i32⟩
  | 125 => ⟨S512x2, .i32⟩
  | 126 => ⟨S512x2, .f32⟩
  | 127 => ⟨S512x2, .f32⟩
  | _ => ⟨S512x32x16x16, .f32⟩

abbrev hbmTy0_1 (i : Nat) : BufTy := match i % 128 with
  | 0 => ⟨S_, .f32⟩
  | 1 => ⟨S512, .f32⟩
  | 2 => ⟨S512, .f32⟩
  | _ => ⟨S512x32x16x16, .f32⟩

abbrev hbmTy (i : Nat) : BufTy := match i / 128 with
  | 0 => hbmTy0_0 i
  | 1 => hbmTy0_1 i
  | _ => ⟨S512x32x16x16, .f32⟩

abbrev bufTy : (tb : Table) → Fin (tcTables nBuf tb) → BufTy
  | .hbm, ⟨i, _⟩ => hbmTy i
  | _, _ => ⟨S512x32x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_cst : Ref sig .tc := ⟨.hbm, 15, rfl⟩
abbrev main_call0_c : Ref sig .tc := ⟨.hbm, 16, rfl⟩
abbrev main_call0_v1_0 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_call1_c_4 : Ref sig .tc := ⟨.hbm, 41, rfl⟩
abbrev main_call1_v15 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_cst_4 : Ref sig .tc := ⟨.hbm, 54, rfl⟩
abbrev main_v19 : Ref sig .tc := ⟨.hbm, 55, rfl⟩
abbrev main_v20 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_v21 : Ref sig .tc := ⟨.hbm, 60, rfl⟩
abbrev main_cst_6 : Ref sig .tc := ⟨.hbm, 61, rfl⟩
abbrev main_v22 : Ref sig .tc := ⟨.hbm, 62, rfl⟩
abbrev main_v23 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_cst : Ref sig .tc := ⟨.hbm, 84, rfl⟩
abbrev main_call3_v15 : Ref sig .tc := ⟨.hbm, 85, rfl⟩
abbrev main_v24 : Ref sig .tc := ⟨.hbm, 86, rfl⟩
abbrev main_v25 : Ref sig .tc := ⟨.hbm, 87, rfl⟩
abbrev main_cst_7 : Ref sig .tc := ⟨.hbm, 88, rfl⟩
abbrev main_v26 : Ref sig .tc := ⟨.hbm, 89, rfl⟩
abbrev main_v27 : Ref sig .tc := ⟨.hbm, 90, rfl⟩
abbrev main_cst_8 : Ref sig .tc := ⟨.hbm, 91, rfl⟩
abbrev main_v28 : Ref sig .tc := ⟨.hbm, 92, rfl⟩
abbrev main_v29 : Ref sig .tc := ⟨.hbm, 93, rfl⟩
abbrev main_cst_9 : Ref sig .tc := ⟨.hbm, 94, rfl⟩
abbrev main_v30 : Ref sig .tc := ⟨.hbm, 95, rfl⟩
abbrev main_v31 : Ref sig .tc := ⟨.hbm, 96, rfl⟩
abbrev main_call4_v0 : Ref sig .tc := ⟨.hbm, 97, rfl⟩
abbrev main_call4_cst : Ref sig .tc := ⟨.hbm, 98, rfl⟩
abbrev main_call4_c : Ref sig .tc := ⟨.hbm, 99, rfl⟩
abbrev main_call4_v1_0 : Ref sig .tc := ⟨.hbm, 100, rfl⟩
abbrev main_v32 : Ref sig .tc := ⟨.hbm, 101, rfl⟩
abbrev main_call5_c : Ref sig .tc := ⟨.hbm, 102, rfl⟩
abbrev main_call5_v0 : Ref sig .tc := ⟨.hbm, 103, rfl⟩
abbrev main_call5_v1 : Ref sig .tc := ⟨.hbm, 104, rfl⟩
abbrev main_call5_c_0 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_c_1 : Ref sig .tc := ⟨.hbm, 110, rfl⟩
abbrev main_call5_c_2 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_3 : Ref sig .tc := ⟨.hbm, 118, rfl⟩
abbrev main_call5_v12 : Ref sig .tc := ⟨.hbm, 119, rfl⟩
abbrev main_call5_v13 : Ref sig .tc := ⟨.hbm, 120, rfl⟩
abbrev main_call5_v14 : Ref sig .tc := ⟨.hbm, 121, rfl⟩
abbrev main_call5_c_4 : Ref sig .tc := ⟨.hbm, 122, rfl⟩
abbrev main_call5_v15 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_cst_10 : Ref sig .tc := ⟨.hbm, 128, rfl⟩
abbrev main_v37 : Ref sig .tc := ⟨.hbm, 129, rfl⟩
abbrev main_v38 : Ref sig .tc := ⟨.hbm, 130, rfl⟩

abbrev nD : Nat := 1
abbrev τ : Topo := Topo.v7x

variable {F : FTy → Type} [FloatOps F]
-- ==== Proof.Ideal.State.lean ====
/- The kernel's scratch as a state, and what each kind of grid point does to it: `x0` is the transposed query block, `x1`
   the key block of the point, `x2` and `x3` the transposed coordinates. Everything is stated at any float values `F`. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.Sem
open Idealize.ShloMosaic.VecWindow
open Cert.KernelIdeal.Gen

variable {F : FTy → Type} [FloatOps F]

/-! ## Where a point reads and writes -/

/-- Rows `2048·kk` and on of the query block. -/
abbrev offQ (kk : ℕ) : Fin 2 → ℕ := ![2048 * kk, 0]
/-- Columns `1024·j` and on. -/
abbrev offC (j : ℕ) : Fin 2 → ℕ := ![0, 1024 * j]

theorem inbQ {kk : ℕ} (h : kk < 4) : ∀ a, offQ kk a + S2048x512.size a ≤ S8192x512.size a := by
  intro a; fin_cases a
  · show 2048 * kk + 2048 ≤ 8192; omega
  · show 0 + 512 ≤ 512; omega
theorem inbC {j : ℕ} (h : j < 4) : ∀ a, offC j a + S512x1024.size a ≤ S512x4096.size a := by
  intro a; fin_cases a
  · show 0 + 512 ≤ 512; omega
  · show 1024 * j + 1024 ≤ 4096; omega
theorem inbR {j : ℕ} (h : j < 4) : ∀ a, offC j a + S1x1024.size a ≤ S1x4096.size a := by
  intro a; fin_cases a
  · show 0 + 1 ≤ 1; omega
  · show 1024 * j + 1024 ≤ 4096; omega

/-- The point's column block number and slice number, as the grid's coordinate gives them. -/
theorem mod_lt (n : ℕ) : n % 4 < 4 := Nat.mod_lt _ (by decide)

theorem off1_eq : ∀ t : Fin cfg0.N, k0_off1 (grid0.coords t) = offQ (t.val % 4) :=
  (by decide +kernel : ∀ t : Fin grid0.N, k0_off1 (grid0.coords t) = offQ (t.val % 4))
theorem off2_eq : ∀ t : Fin cfg0.N, k0_off2 (grid0.coords t) = offC (t.val / 4) :=
  (by decide +kernel : ∀ t : Fin grid0.N, k0_off2 (grid0.coords t) = offC (t.val / 4))
theorem off3_eq : ∀ t : Fin cfg0.N, k0_off3 (grid0.coords t) = offC (t.val / 4) :=
  (by decide +kernel : ∀ t : Fin grid0.N, k0_off3 (grid0.coords t) = offC (t.val / 4))
theorem off4_eq : ∀ t : Fin cfg0.N, k0_off4 (grid0.coords t) = offC (t.val / 4) :=
  (by decide +kernel : ∀ t : Fin grid0.N, k0_off4 (grid0.coords t) = offC (t.val / 4))
theorem off5_eq : ∀ t : Fin cfg0.N, k0_off5 (grid0.coords t) = offC (t.val / 4) :=
  (by decide +kernel : ∀ t : Fin grid0.N, k0_off5 (grid0.coords t) = offC (t.val / 4))
theorem cond1_iff : ∀ t : Fin cfg0.N, k0_cond1 (grid0.coords t) = 1#1 ↔ t.val < 16 :=
  (by decide +kernel : ∀ t : Fin grid0.N, k0_cond1 (grid0.coords t) = 1#1 ↔ t.val < 16)
theorem cond2_iff : ∀ t : Fin cfg0.N, k0_cond2 (grid0.coords t) = 1#1 ↔ t.val % 4 = 0 :=
  (by decide +kernel : ∀ t : Fin grid0.N, k0_cond2 (grid0.coords t) = 1#1 ↔ t.val % 4 = 0)
theorem cond3_iff : ∀ t : Fin cfg0.N, k0_cond3 (grid0.coords t) = 1#1 ↔ (t.val % 4 = 1 ∨ t.val % 4 = 2) :=
  (by decide +kernel : ∀ t : Fin grid0.N, k0_cond3 (grid0.coords t) = 1#1 ↔ (t.val % 4 = 1 ∨ t.val % 4 = 2))
theorem cond4_iff : ∀ t : Fin cfg0.N, k0_cond4 (grid0.coords t) = 1#1 ↔ t.val % 4 = 3 :=
  (by decide +kernel : ∀ t : Fin grid0.N, k0_cond4 (grid0.coords t) = 1#1 ↔ t.val % 4 = 3)
theorem cond5_iff : ∀ t : Fin cfg0.N, k0_cond5 (grid0.coords t) = 1#1 ↔ t.val = 16 :=
  (by decide +kernel : ∀ t : Fin grid0.N, k0_cond5 (grid0.coords t) = 1#1 ↔ t.val = 16)
theorem blockWord_eq : ∀ t : Fin cfg0.N, Scalar.divsi (BitVec.ofNat 32 (grid0.coords t 0).val) 4#32 = BitVec.ofNat 32 (t.val / 4) :=
  (by decide +kernel : ∀ t : Fin grid0.N, Scalar.divsi (BitVec.ofNat 32 (grid0.coords t 0).val) 4#32 = BitVec.ofNat 32 (t.val / 4))
theorem live4 : ∀ t : Fin cfg0.N, t.val = 16 → cfg0.idle 4 (grid0.coords t) = false :=
  (by decide +kernel : ∀ t : Fin grid0.N, t.val = 16 → cfg0.idle 4 (grid0.coords t) = false)
theorem idle4 : ∀ t : Fin cfg0.N, t.val < 16 → cfg0.idle 4 (grid0.coords t) = true :=
  (by decide +kernel : ∀ t : Fin grid0.N, t.val < 16 → cfg0.idle 4 (grid0.coords t) = true)
theorem noFlush4 : ∀ t : Fin cfg0.N, t.val < 16 → (cfg0.win 4).flush t = false := fun t h => by
  have := flush0_4 t
  cases hf : (cfg0.win 4).flush t
  · rfl
  · have := this.mp hf; omega

/-! ## The state -/

/-- The three scratch buffers: the similarities, each row's running maximum and its index, each column's first best row. -/
structure St (F : FTy → Type) where
  sims : Vec F S512x4096 .f32
  stat : Vec F S512x2 .f32
  best : Vec F S1x4096 .i32

/-- One slice's product of a query slice with the key block. -/
def part (kk : ℕ) (h : kk < 4) (x0 : Vec F S8192x512 .f32) (x1 : Vec F S2048x1024 .f32) : FVec F S512x1024 .f32 :=
  k0_pay1 (window x0 (offQ kk) S2048x512.size (inbQ h)) x1

/-- The first slice: the column block is the product. -/
def stStore (j : ℕ) (p : FVec F S512x1024 .f32) (s : St F) : St F :=
  ⟨put s.sims (offC j) S512x1024.size (shapeCast S512x1024 p shapeCasts_S512x1024_S512x1024), s.stat, s.best⟩

/-- A middle slice: the product is added to the column block. -/
def stAccum (j : ℕ) (hj : j < 4) (p : FVec F S512x1024 .f32) (s : St F) : St F :=
  ⟨put s.sims (offC j) S512x1024.size
      (shapeCast S512x1024 (addf (window s.sims (offC j) S512x1024.size (inbC hj)) p) shapeCasts_S512x1024_S512x1024), s.stat, s.best⟩

/-- The last slice: the column block is finished, the rows' running maxima and the columns' best rows follow. -/
def stFinish (j : ℕ) (hj : j < 4) (p : FVec F S512x1024 .f32) (s : St F) : St F where
  sims := put s.sims (offC j) S512x1024.size (k0_pay7 p (window s.sims (offC j) S512x1024.size (inbC hj)))
  stat := put (put s.stat ![0, 0] S512x1.size
        (k0_pay11 (BitVec.ofNat 32 j) p (window s.sims (offC j) S512x1024.size (inbC hj)) (window s.stat ![0, 0] S512x1.size inb_S512x2_S512x1_0_0)))
      ![0, 1] S512x1.size
      (k0_pay4 (k0_pay12 (BitVec.ofNat 32 j) p (window s.sims (offC j) S512x1024.size (inbC hj)) (window s.stat ![0, 0] S512x1.size inb_S512x2_S512x1_0_0)
        (window s.stat ![0, 1] S512x1.size inb_S512x2_S512x1_0_1)))
  best := put s.best (offC j) S1x1024.size (k0_pay5 (k0_pay6 p (window s.sims (offC j) S512x1024.size (inbC hj))))

/-- The four columns of the result, over anything. -/
def outCols (x2 : Vec F S2x512 .f32) (x3 : Vec F S2x4096 .f32) (s : St F) (o : Vec F S512x4 .f32) : Vec F S512x4 .f32 :=
  let m := window s.stat ![0, 0] S512x1.size inb_S512x2_S512x1_0_0
  let a := window s.stat ![0, 1] S512x1.size inb_S512x2_S512x1_0_1
  put (put (put (put o ![0, 0] S512x1.size m)
    ![0, 1] S512x1.size (k0_pay16 m (k0_pay15 s.sims a (window x3 ![0, 0] S1x4096.size inb_S2x4096_S1x4096_0_0)
      (window x3 ![1, 0] S1x4096.size inb_S2x4096_S1x4096_1_0))))
    ![0, 2] S512x1.size (k0_pay17 (k0_pay14 a) s.best (window x2 ![0, 0] S1x512.size inb_S2x512_S1x512_0_0)
      (window x2 ![1, 0] S1x512.size inb_S2x512_S1x512_1_0)))
    ![0, 3] S512x1.size (k0_pay18 (k0_pay13 a))

/-- The result of the last point from the state it finds. -/
def outOf (x2 : Vec F S2x512 .f32) (x3 : Vec F S2x4096 .f32) (s : St F) : Vec F S512x4 .f32 :=
  outCols x2 x3 s (constant S512x4 .f32 0x00000000#32)

/-- The four columns are the whole result: nothing of what was there before shows. -/
theorem outCols_eq (x2 : Vec F S2x512 .f32) (x3 : Vec F S2x4096 .f32) (s : St F) (o : Vec F S512x4 .f32) :
    outCols x2 x3 s o = outOf x2 x3 s := by
  funext y
  have h0 : (y (0 : Fin 2)).val < 512 := (y (0 : Fin 2)).isLt
  have h1 : (y (1 : Fin 2)).val < 4 := (y (1 : Fin 2)).isLt
  have hin : ∀ c : ℕ, (y (1 : Fin 2)).val = c → ∀ a : Fin 2, (![0, c] : Fin 2 → ℕ) a ≤ (y a).val ∧ (y a).val < (![0, c] : Fin 2 → ℕ) a + S512x1.size a := by
    intro c hc a; fin_cases a
    · exact ⟨Nat.zero_le _, by show (y (0 : Fin 2)).val < 0 + 512; omega⟩
    · exact ⟨le_of_eq hc.symm, by show (y (1 : Fin 2)).val < c + 1; omega⟩
  have hput : ∀ (c : ℕ) (w : ((a : Fin 2) → Fin (S512x1.size a)) → Elt F .f32) (p q : Vec F S512x4 .f32),
      ((y (1 : Fin 2)).val = c ∨ p y = q y) → put (s := S512x4) p ![0, c] S512x1.size w y = put (s := S512x4) q ![0, c] S512x1.size w y := by
    intro c w p q h
    unfold put
    by_cases hm : ∀ a : Fin S512x4.rank, (![0, c] : Fin 2 → ℕ) a ≤ (y a).val ∧ (y a).val < (![0, c] : Fin 2 → ℕ) a + S512x1.size a
    · rw [dif_pos hm, dif_pos hm]
    · rw [dif_neg hm, dif_neg hm]
      rcases h with h | h
      · exact absurd (hin c h) hm
      · exact h
  unfold outOf outCols
  refine hput 3 _ _ _ ?_
  by_cases h3 : (y (1 : Fin 2)).val = 3; · exact .inl h3
  refine .inr (hput 2 _ _ _ ?_)
  by_cases h2 : (y (1 : Fin 2)).val = 2; · exact .inl h2
  refine .inr (hput 1 _ _ _ ?_)
  by_cases h1' : (y (1 : Fin 2)).val = 1; · exact .inl h1'
  exact .inr (hput 0 _ _ _ (.inl (by omega)))

/-- What point `n` does to the state, `x1` the key block of the point. The last point leaves it. -/
def step (n : ℕ) (x0 : Vec F S8192x512 .f32) (x1 : Vec F S2048x1024 .f32) (s : St F) : St F :=
  if h : n < 16 then
    if n % 4 = 0 then stStore (n / 4) (part (n % 4) (mod_lt n) x0 x1) s
    else if n % 4 = 3 then stFinish (n / 4) (by omega) (part (n % 4) (mod_lt n) x0 x1) s
    else stAccum (n / 4) (by omega) (part (n % 4) (mod_lt n) x0 x1) s
  else s

end Cert.KernelIdeal.Hand

end
-- ==== Proof.Ideal.RunStore.lean ====
/- What the body's run leaves at a point that stores a first slice. -/
module

public import proofs.«01_k».proof.Proof.Ideal.State

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.KernelIdeal.Gen

variable {F : FTy → Type} [FloatOps F]

local notation "𝕄" => MT nD τ sig Unit (Elt F) ℕ (UR sig nD τ) ℕ

set_option maxHeartbeats 1000000 in
/-- At a first slice the body leaves the state of `stStore`. -/
theorem run_store (c : Dev nD) (i : grid0.Coords) (arg1 : Memref sig .tc .vmem S8192x512 .f32) (harg1 : arg1.IsWhole) (arg2 : Memref sig .tc .vmem S2048x1024 .f32) (harg2 : arg2.IsWhole) (arg3 : Memref sig .tc .vmem S2x512 .f32) (harg3 : arg3.IsWhole) (arg4 : Memref sig .tc .vmem S2x4096 .f32) (harg4 : arg4.IsWhole) (arg5 : Memref sig .tc .vmem S512x4 .f32) (harg5 : arg5.IsWhole) (arg6 : Memref sig .tc .vmem S512x4096 .f32) (harg6 : arg6.IsWhole) (arg7 : Memref sig .tc .vmem S512x2 .f32) (harg7 : arg7.IsWhole) (arg8 : Memref sig .tc .vmem S1x4096 .i32) (harg8 : arg8.IsWhole)
    (hc1 : k0_cond1 i = 1#1) (hc2 : k0_cond2 i = 1#1) (hc3 : ¬k0_cond3 i = 1#1) (hc4 : ¬k0_cond4 i = 1#1) (hc5 : ¬k0_cond5 i = 1#1) (j kk : ℕ) (hj : j < 4) (hkk : kk < 4) (hq : k0_off1 i = offQ kk) (ho : k0_off2 i = offC j)
    (x0 : Vec F S8192x512 .f32) (x1 : Vec F S2048x1024 .f32) (x2 : Vec F S2x512 .f32) (x3 : Vec F S2x4096 .f32) (o : Vec F S512x4 .f32) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare o ∗ owns (c : Thread nD τ) arg6 fullShare s.sims ∗ owns (c : Thread nD τ) arg7 fullShare s.stat ∗ owns (c : Thread nD τ) arg8 fullShare s.best
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare o ∗ owns (c : Thread nD τ) arg6 fullShare (stStore j (part kk hkk x0 x1) s).sims ∗ owns (c : Thread nD τ) arg7 fullShare s.stat ∗ owns (c : Thread nD τ) arg8 fullShare s.best) -∗ K ⟨⟩))
      ⊢ wp frame (wpE (defs₀ (F := F)) Variants.none c none) E (cc0__fused_body i arg1 harg1 arg2 harg2 arg3 harg3 arg4 harg4 arg5 harg5 arg6 harg6 arg7 harg7 arg8 harg8) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, HS0⟩, ⟨%f6, %hf6, HS1⟩, ⟨%f7, %hf7, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc1 | sl_exact hc2 | sl_exact hc3 | sl_exact hc4 | sl_exact hc5)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro
    rw [View.read_writes_cons_put _ _ _ _ _ ho, View.writes_nil, View.readAt_unit _ _ _ hq (inbQ hkk), View.readAt_full, hf0, hf1, hf5]
    rfl
  isplitl [HS1]
  · iexists _; isplitr; · ipureintro; exact harg7.read_unread _
    iexact HS1
  iexists _; isplitr; · ipureintro; exact harg8.read_unread _
  iexact HS2

end Cert.KernelIdeal.Hand

end
-- ==== Proof.Ideal.RunAccum.lean ====
/- What the body's run leaves at a point that adds a middle slice. -/
module

public import proofs.«01_k».proof.Proof.Ideal.RunStore

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.KernelIdeal.Gen

variable {F : FTy → Type} [FloatOps F]

local notation "𝕄" => MT nD τ sig Unit (Elt F) ℕ (UR sig nD τ) ℕ

set_option maxHeartbeats 1000000 in
/-- At a middle slice the body leaves the state of `stAccum`. -/
theorem run_accum (c : Dev nD) (i : grid0.Coords) (arg1 : Memref sig .tc .vmem S8192x512 .f32) (harg1 : arg1.IsWhole) (arg2 : Memref sig .tc .vmem S2048x1024 .f32) (harg2 : arg2.IsWhole) (arg3 : Memref sig .tc .vmem S2x512 .f32) (harg3 : arg3.IsWhole) (arg4 : Memref sig .tc .vmem S2x4096 .f32) (harg4 : arg4.IsWhole) (arg5 : Memref sig .tc .vmem S512x4 .f32) (harg5 : arg5.IsWhole) (arg6 : Memref sig .tc .vmem S512x4096 .f32) (harg6 : arg6.IsWhole) (arg7 : Memref sig .tc .vmem S512x2 .f32) (harg7 : arg7.IsWhole) (arg8 : Memref sig .tc .vmem S1x4096 .i32) (harg8 : arg8.IsWhole)
    (hc1 : k0_cond1 i = 1#1) (hc2 : ¬k0_cond2 i = 1#1) (hc3 : k0_cond3 i = 1#1) (hc4 : ¬k0_cond4 i = 1#1) (hc5 : ¬k0_cond5 i = 1#1) (j kk : ℕ) (hj : j < 4) (hkk : kk < 4) (hq : k0_off1 i = offQ kk) (ho : k0_off3 i = offC j)
    (x0 : Vec F S8192x512 .f32) (x1 : Vec F S2048x1024 .f32) (x2 : Vec F S2x512 .f32) (x3 : Vec F S2x4096 .f32) (o : Vec F S512x4 .f32) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare o ∗ owns (c : Thread nD τ) arg6 fullShare s.sims ∗ owns (c : Thread nD τ) arg7 fullShare s.stat ∗ owns (c : Thread nD τ) arg8 fullShare s.best
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare o ∗ owns (c : Thread nD τ) arg6 fullShare (stAccum j hj (part kk hkk x0 x1) s).sims ∗ owns (c : Thread nD τ) arg7 fullShare s.stat ∗ owns (c : Thread nD τ) arg8 fullShare s.best) -∗ K ⟨⟩))
      ⊢ wp frame (wpE (defs₀ (F := F)) Variants.none c none) E (cc0__fused_body i arg1 harg1 arg2 harg2 arg3 harg3 arg4 harg4 arg5 harg5 arg6 harg6 arg7 harg7 arg8 harg8) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, HS0⟩, ⟨%f6, %hf6, HS1⟩, ⟨%f7, %hf7, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc1 | sl_exact hc2 | sl_exact hc3 | sl_exact hc4 | sl_exact hc5)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro
    rw [View.read_writes_cons_put _ _ _ _ _ ho, View.writes_nil, View.readAt_unit _ _ _ hq (inbQ hkk), View.readAt_full, hf0, hf1, View.readAt_unit _ _ _ ho (inbC hj), hf5]
    rfl
  isplitl [HS1]
  · iexists _; isplitr; · ipureintro; exact harg7.read_unread _
    iexact HS1
  iexists _; isplitr; · ipureintro; exact harg8.read_unread _
  iexact HS2

end Cert.KernelIdeal.Hand

end
-- ==== Proof.Ideal.RunFinish.lean ====
/- What the body's run leaves at a point that adds a last slice. -/
module

public import proofs.«01_k».proof.Proof.Ideal.RunAccum

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.KernelIdeal.Gen

variable {F : FTy → Type} [FloatOps F]

local notation "𝕄" => MT nD τ sig Unit (Elt F) ℕ (UR sig nD τ) ℕ

set_option maxHeartbeats 1000000 in
/-- At a last slice the body leaves the state of `stFinish`. -/
theorem run_finish (c : Dev nD) (i : grid0.Coords) (arg1 : Memref sig .tc .vmem S8192x512 .f32) (harg1 : arg1.IsWhole) (arg2 : Memref sig .tc .vmem S2048x1024 .f32) (harg2 : arg2.IsWhole) (arg3 : Memref sig .tc .vmem S2x512 .f32) (harg3 : arg3.IsWhole) (arg4 : Memref sig .tc .vmem S2x4096 .f32) (harg4 : arg4.IsWhole) (arg5 : Memref sig .tc .vmem S512x4 .f32) (harg5 : arg5.IsWhole) (arg6 : Memref sig .tc .vmem S512x4096 .f32) (harg6 : arg6.IsWhole) (arg7 : Memref sig .tc .vmem S512x2 .f32) (harg7 : arg7.IsWhole) (arg8 : Memref sig .tc .vmem S1x4096 .i32) (harg8 : arg8.IsWhole)
    (hc1 : k0_cond1 i = 1#1) (hc2 : ¬k0_cond2 i = 1#1) (hc3 : ¬k0_cond3 i = 1#1) (hc4 : k0_cond4 i = 1#1) (hc5 : ¬k0_cond5 i = 1#1) (j kk : ℕ) (hj : j < 4) (hkk : kk < 4) (hq : k0_off1 i = offQ kk) (ho : k0_off4 i = offC j) (ho5 : k0_off5 i = offC j) (hw : Scalar.divsi (BitVec.ofNat 32 (i 0).val) 4#32 = BitVec.ofNat 32 j)
    (x0 : Vec F S8192x512 .f32) (x1 : Vec F S2048x1024 .f32) (x2 : Vec F S2x512 .f32) (x3 : Vec F S2x4096 .f32) (o : Vec F S512x4 .f32) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare o ∗ owns (c : Thread nD τ) arg6 fullShare s.sims ∗ owns (c : Thread nD τ) arg7 fullShare s.stat ∗ owns (c : Thread nD τ) arg8 fullShare s.best
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare o ∗ owns (c : Thread nD τ) arg6 fullShare (stFinish j hj (part kk hkk x0 x1) s).sims ∗ owns (c : Thread nD τ) arg7 fullShare (stFinish j hj (part kk hkk x0 x1) s).stat ∗ owns (c : Thread nD τ) arg8 fullShare (stFinish j hj (part kk hkk x0 x1) s).best) -∗ K ⟨⟩))
      ⊢ wp frame (wpE (defs₀ (F := F)) Variants.none c none) E (cc0__fused_body i arg1 harg1 arg2 harg2 arg3 harg3 arg4 harg4 arg5 harg5 arg6 harg6 arg7 harg7 arg8 harg8) K := by
  simp only [cc0__fused_body_eq_skeleton]; unfold cc0__fused_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, HS0⟩, ⟨%f6, %hf6, HS1⟩, ⟨%f7, %hf7, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc1 | sl_exact hc2 | sl_exact hc3 | sl_exact hc4 | sl_exact hc5)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro
    unfold run_finish.sl.v10
    rw [View.read_writes_cons_put _ _ _ _ _ ho, View.writes_nil, View.readAt_unit _ _ _ hq (inbQ hkk), View.readAt_full, View.readAt_unit _ _ _ ho (inbC hj), hf0, hf1, hf5]
    rfl
  isplitl [HS1]
  · iexists _; isplitr; swap; · iexact HS1
    ipureintro
    unfold run_finish.sl.r_1
    unfold run_finish.sl.v10 run_finish.sl.v61
    rw [View.read_writes_cons_put _ _ _ _ _ rfl, View.read_writes_cons_put _ _ _ _ _ rfl, View.writes_nil, hw]
    rw [View.readAt_unit _ _ _ hq (inbQ hkk), View.readAt_full, View.readAt_unit _ _ _ ho (inbC hj), View.readAt_unit _ _ _ rfl inb_S512x2_S512x1_0_0, View.readAt_unit _ _ _ rfl inb_S512x2_S512x1_0_1, hf0, hf1, hf5, hf6]
    rfl
  iexists _; isplitr; swap; · iexact HS2
  ipureintro
  unfold run_finish.sl.r
  unfold run_finish.sl.v10
  rw [View.read_writes_cons_put _ _ _ _ _ ho5, View.writes_nil, View.readAt_unit _ _ _ hq (inbQ hkk), View.readAt_full, View.readAt_unit _ _ _ ho (inbC hj), hf0, hf1, hf5, hf7]
  rfl

end Cert.KernelIdeal.Hand

end
-- ==== Proof.Ideal.RunFinal.lean ====
/- What the body's run leaves at the last point. -/
module

public import proofs.«01_k».proof.Proof.Ideal.RunFinish

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.KernelIdeal.Gen

variable {F : FTy → Type} [FloatOps F]

local notation "𝕄" => MT nD τ sig Unit (Elt F) ℕ (UR sig nD τ) ℕ

set_option maxHeartbeats 1000000 in
/-- At the last point the body writes `outOf` of the state it finds. -/
theorem run_final (c : Dev nD) (i : grid0.Coords) (arg1 : Memref sig .tc .vmem S8192x512 .f32) (harg1 : arg1.IsWhole) (arg2 : Memref sig .tc .vmem S2048x1024 .f32) (harg2 : arg2.IsWhole) (arg3 : Memref sig .tc .vmem S2x512 .f32) (harg3 : arg3.IsWhole) (arg4 : Memref sig .tc .vmem S2x4096 .f32) (harg4 : arg4.IsWhole) (arg5 : Memref sig .tc .vmem S512x4 .f32) (harg5 : arg5.IsWhole) (arg6 : Memref sig .tc .vmem S512x4096 .f32) (harg6 : arg6.IsWhole) (arg7 : Memref sig .tc .vmem S512x2 .f32) (harg7 : arg7.IsWhole) (arg8 : Memref sig .tc .vmem S1x4096 .i32) (harg8 : arg8.IsWhole)
    (hc1 : ¬k0_cond1 i = 1#1) (hc5 : k0_cond5 i = 1#1)
    (x0 : Vec F S8192x512 .f32) (x1 : Vec F S2048x1024 .f32) (x2 : Vec F S2x512 .f32) (x3 : Vec F S2x4096 .f32) (o : Vec F S512x4 .f32) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare o ∗ owns (c : Thread nD τ) arg6 fullShare s.sims ∗ owns (c : Thread nD τ) arg7 fullShare s.stat ∗ owns (c : Thread nD τ) arg8 fullShare s.best
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outOf x2 x3 s) ∗ owns (c : Thread nD τ) arg6 fullShare s.sims ∗ owns (c : Thread nD τ) arg7 fullShare s.stat ∗ owns (c : Thread nD τ) arg8 fullShare s.best) -∗ K ⟨⟩))
      ⊢ wp frame (wpE (defs₀ (F := F)) Variants.none c none) E (cc0__fused_body i arg1 harg1 arg2 harg2 arg3 harg3 arg4 harg4 arg5 harg5 arg6 harg6 arg7 harg7 arg8 harg8) K := by
  simp only [cc0__fused_body_eq_skeleton]; unfold cc0__fused_body_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, HS0⟩, ⟨%f6, %hf6, HS1⟩, ⟨%f7, %hf7, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc1 | sl_exact hc5)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    rw [View.read_writes_cons_put _ _ _ _ _ rfl, View.read_writes_cons_put _ _ _ _ _ rfl, View.read_writes_cons_put _ _ _ _ _ rfl, View.read_writes_cons_put _ _ _ _ _ rfl, View.writes_nil, hf4]
    unfold run_final.sl.r_4 run_final.sl.r_3 run_final.sl.r_2 run_final.sl.r_1 run_final.sl.r
    rw [← outCols_eq x2 x3 s o]
    rw [View.readAt_unit arg7.view _ _ rfl inb_S512x2_S512x1_0_0, View.readAt_unit arg7.view _ _ rfl inb_S512x2_S512x1_0_1, View.readAt_unit arg3.view _ _ rfl inb_S2x512_S1x512_0_0, View.readAt_unit arg3.view _ _ rfl inb_S2x512_S1x512_1_0, View.readAt_unit arg4.view _ _ rfl inb_S2x4096_S1x4096_0_0, View.readAt_unit arg4.view _ _ rfl inb_S2x4096_S1x4096_1_0, View.readAt_full arg6.view, View.readAt_full arg8.view, hf2, hf3, hf5, hf6, hf7]
    rfl
  isplitl [HS0]
  · iexists _; isplitr; · ipureintro; exact harg6.read_unread _
    iexact HS0
  isplitl [HS1]
  · iexists _; isplitr; · ipureintro; exact harg7.read_unread _
    iexact HS1
  iexists _; isplitr; · ipureintro; exact harg8.read_unread _
  iexact HS2

end Cert.KernelIdeal.Hand

end
-- ==== Proof.Ideal.Body.lean ====
/- The body at any point: one run over the state, and the launch's invariant over it. -/
module

public import proofs.«01_k».proof.Proof.Ideal.RunFinal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's buffer holds after point `n`: the last point writes it, the others leave it. -/
def outAt (n : ℕ) (x2 : Vec F S2x512 .f32) (x3 : Vec F S2x4096 .f32) (s : St F) (o : Vec F S512x4 .f32) : Vec F S512x4 .f32 :=
  if n < 16 then o else outOf x2 x3 s

theorem point_lt (t : Fin cfg0.N) : t.val < 17 := lt_of_lt_of_eq t.isLt (show cfg0.N = 17 from N_0)

set_option maxHeartbeats 1000000 in
/-- The body at any point takes the state to its `step` and the output to `outAt`. -/
theorem run_point (c : Dev nD) (t : Fin cfg0.N) (arg1 : Memref sig .tc .vmem S8192x512 .f32) (harg1 : arg1.IsWhole) (arg2 : Memref sig .tc .vmem S2048x1024 .f32) (harg2 : arg2.IsWhole) (arg3 : Memref sig .tc .vmem S2x512 .f32) (harg3 : arg3.IsWhole) (arg4 : Memref sig .tc .vmem S2x4096 .f32) (harg4 : arg4.IsWhole) (arg5 : Memref sig .tc .vmem S512x4 .f32) (harg5 : arg5.IsWhole) (arg6 : Memref sig .tc .vmem S512x4096 .f32) (harg6 : arg6.IsWhole) (arg7 : Memref sig .tc .vmem S512x2 .f32) (harg7 : arg7.IsWhole) (arg8 : Memref sig .tc .vmem S1x4096 .i32) (harg8 : arg8.IsWhole)
    (x0 : Vec F S8192x512 .f32) (x1 : Vec F S2048x1024 .f32) (x2 : Vec F S2x512 .f32) (x3 : Vec F S2x4096 .f32) (o : Vec F S512x4 .f32) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare o ∗ owns (c : Thread nD τ) arg6 fullShare s.sims ∗ owns (c : Thread nD τ) arg7 fullShare s.stat ∗ owns (c : Thread nD τ) arg8 fullShare s.best
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outAt t.val x2 x3 s o) ∗ owns (c : Thread nD τ) arg6 fullShare (step t.val x0 x1 s).sims ∗ owns (c : Thread nD τ) arg7 fullShare (step t.val x0 x1 s).stat ∗ owns (c : Thread nD τ) arg8 fullShare (step t.val x0 x1 s).best) -∗ K ⟨⟩))
      ⊢ wp frame (wpE (defs₀ (F := F)) Variants.none c none) E (cc0__fused_body (grid0.coords t) arg1 harg1 arg2 harg2 arg3 harg3 arg4 harg4 arg5 harg5 arg6 harg6 arg7 harg7 arg8 harg8) K := by
  have hN := point_lt t
  by_cases h16 : t.val < 16
  · have c1 := (cond1_iff t).mpr h16
    have c5 : ¬k0_cond5 (grid0.coords t) = 1#1 := fun h => by have := (cond5_iff t).mp h; omega
    rw [show outAt t.val x2 x3 s o = o from if_pos h16]
    by_cases h0 : t.val % 4 = 0
    · rw [show step t.val x0 x1 s = stStore (t.val / 4) (part (t.val % 4) (mod_lt _) x0 x1) s from by unfold step; rw [dif_pos h16, if_pos h0]]
      exact run_store c _ _ harg1 _ harg2 _ harg3 _ harg4 _ harg5 _ harg6 _ harg7 _ harg8 c1 ((cond2_iff t).mpr h0) (fun h => by have := (cond3_iff t).mp h; omega) (fun h => by have := (cond4_iff t).mp h; omega) c5
        (t.val / 4) (t.val % 4) (by omega) (mod_lt _) (off1_eq t) (off2_eq t) x0 x1 x2 x3 o s E K
    · by_cases h3 : t.val % 4 = 3
      · rw [show step t.val x0 x1 s = stFinish (t.val / 4) (by omega) (part (t.val % 4) (mod_lt _) x0 x1) s from by unfold step; rw [dif_pos h16, if_neg h0, if_pos h3]]
        exact run_finish c _ _ harg1 _ harg2 _ harg3 _ harg4 _ harg5 _ harg6 _ harg7 _ harg8 c1 (fun h => h0 ((cond2_iff t).mp h)) (fun h => by have := (cond3_iff t).mp h; omega) ((cond4_iff t).mpr h3) c5
          (t.val / 4) (t.val % 4) (by omega) (mod_lt _) (off1_eq t) (off4_eq t) (off5_eq t) (blockWord_eq t) x0 x1 x2 x3 o s E K
      · rw [show step t.val x0 x1 s = stAccum (t.val / 4) (by omega) (part (t.val % 4) (mod_lt _) x0 x1) s from by unfold step; rw [dif_pos h16, if_neg h0, if_neg h3]]
        exact run_accum c _ _ harg1 _ harg2 _ harg3 _ harg4 _ harg5 _ harg6 _ harg7 _ harg8 c1 (fun h => h0 ((cond2_iff t).mp h)) ((cond3_iff t).mpr (by omega)) (fun h => h3 ((cond4_iff t).mp h)) c5
          (t.val / 4) (t.val % 4) (by omega) (mod_lt _) (off1_eq t) (off3_eq t) x0 x1 x2 x3 o s E K
  · rw [show outAt t.val x2 x3 s o = outOf x2 x3 s from if_neg h16, show step t.val x0 x1 s = s from by unfold step; rw [dif_neg h16]]
    exact run_final c _ _ harg1 _ harg2 _ harg3 _ harg4 _ harg5 _ harg6 _ harg7 _ harg8 (fun h => h16 ((cond1_iff t).mp h)) ((cond5_iff t).mpr (by omega)) x0 x1 x2 x3 o s E K

/-! ## The launch's invariant -/

/-- The scratch operands as memrefs. -/
abbrev sc0 : Memref sig .tc .vmem S512x4096 .f32 := Memref.whole cc0_scratch0
abbrev sc1 : Memref sig .tc .vmem S512x2 .f32 := Memref.whole cc0_scratch1
abbrev sc2 : Memref sig .tc .vmem S1x4096 .i32 := Memref.whole cc0_scratch2

/-- The scratch at a state. -/
abbrev scratchAt (c : Dev nD) (s : St F) : sProp 𝕄 :=
  iprop(owns (c : Thread nD τ) sc0 fullShare s.sims ∗ owns (c : Thread nD τ) sc1 fullShare s.stat ∗ owns (c : Thread nD τ) sc2 fullShare s.best)

/-- Before position `n` the scratch is at some state of `I n`, the generator register at anything. -/
def PhiI (I : Dev nD → ℕ → St F → Prop) (c : Dev nD) (n : ℕ) (_ : n ≤ cfg0.N) : sProp 𝕄 :=
  iprop((∃ s, ⌜I c n s⌝ ∗ scratchAt c s) ∗ (∃ r, prngReg c r))

/-- The launch's own invariant: the scratch at anything, the register at anything. -/
theorem launchInv_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [owns_whole]; try rfl

/-- The proof data: the inputs stay at their blocks, the output ends at `out`, the state is in `I`. -/
def dats (I : Dev nD → ℕ → St F → Prop) (out : Dev nD → Vec F S512x4 .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out c
  Φ t := PhiI I c t.val (Nat.le_of_lt_succ t.isLt)
  q _ := fullShare
  owed _ := 0

variable (I : Dev nD → ℕ → St F → Prop) (out : Dev nD → Vec F S512x4 .f32)

theorem A_eq (c : Dev nD) (w : Fin cfg0.W) : (dats m I out 0 c).A w = V m c (Pipeline.arrRef spec0 w) := by
  dsimp only [dats]

theorem inv_castSucc (c : Dev nD) (t : Fin cfg0.N) : (dats m I out 0 c).Φ t.castSucc = PhiI I c t.val (Nat.le_of_lt t.isLt) := by
  dsimp only [dats]; exact Pipeline.Dat.Φ_castSucc (PhiI I c) t
theorem inv_succ (c : Dev nD) (t : Fin cfg0.N) : (dats m I out 0 c).Φ t.succ = PhiI I c (t.val + 1) t.isLt := rfl

theorem after_0 (c : Dev nD) (t : Fin cfg0.N) : (dats m I out 0 c).after 0 t = iblk m c 0 t := by dsimp only [dats]
theorem after_1 (c : Dev nD) (t : Fin cfg0.N) : (dats m I out 0 c).after 1 t = iblk m c 1 t := by dsimp only [dats]
theorem after_2 (c : Dev nD) (t : Fin cfg0.N) : (dats m I out 0 c).after 2 t = iblk m c 2 t := by dsimp only [dats]
theorem after_3 (c : Dev nD) (t : Fin cfg0.N) : (dats m I out 0 c).after 3 t = iblk m c 3 t := by dsimp only [dats]
theorem after_4 (c : Dev nD) (t : Fin cfg0.N) : (dats m I out 0 c).after 4 t = out c := by dsimp only [dats]

theorem before_0 (c : Dev nD) (t : Fin cfg0.N) (d) : (dats m I out 0 c).before 0 t d = iblk m c 0 t :=
  before0_0_of m (dats m I out 0 c) (A_eq m I out c 0) (after_0 m I out c) t d
theorem before_1 (c : Dev nD) (t : Fin cfg0.N) (d) : (dats m I out 0 c).before 1 t d = iblk m c 1 t :=
  before0_1_of m (dats m I out 0 c) (A_eq m I out c 1) (after_1 m I out c) t d
theorem before_2 (c : Dev nD) (t : Fin cfg0.N) (d) : (dats m I out 0 c).before 2 t d = iblk m c 2 t :=
  before0_2_of m (dats m I out 0 c) (A_eq m I out c 2) (after_2 m I out c) t d
theorem before_3 (c : Dev nD) (t : Fin cfg0.N) (d) : (dats m I out 0 c).before 3 t d = iblk m c 3 t :=
  before0_3_of m (dats m I out 0 c) (A_eq m I out c 3) (after_3 m I out c) t d

/-- The windows' current staging buffers at a point. -/
abbrev sg0 (t : Fin cfg0.N) : Memref sig .tc .vmem S8192x512 .f32 := win0_0.stage (cfg0.slots t 0)
abbrev sg1 (t : Fin cfg0.N) : Memref sig .tc .vmem S2048x1024 .f32 := win0_1.stage (cfg0.slots t 1)
abbrev sg2 (t : Fin cfg0.N) : Memref sig .tc .vmem S2x512 .f32 := win0_2.stage (cfg0.slots t 2)
abbrev sg3 (t : Fin cfg0.N) : Memref sig .tc .vmem S2x4096 .f32 := win0_3.stage (cfg0.slots t 3)
abbrev sg4 (t : Fin cfg0.N) : Memref sig .tc .vmem S512x4 .f32 := win0_4.stage (cfg0.slots t 4)

/-- What the body is called with at a point, the output at `o`. -/
def preAt (c : Dev nD) (t : Fin cfg0.N) (o : Vec F S512x4 .f32) : sProp 𝕄 :=
  iprop((dats m I out 0 c).Φ t.castSucc ∗ (dats m I out 0 c).owesAt () t.castSucc
    ∗ (∃ d, owns (c : Thread nD τ) (sg0 t) fullShare ((dats m I out 0 c).before 0 t d))
    ∗ (∃ d, owns (c : Thread nD τ) (sg1 t) fullShare ((dats m I out 0 c).before 1 t d))
    ∗ (∃ d, owns (c : Thread nD τ) (sg2 t) fullShare ((dats m I out 0 c).before 2 t d))
    ∗ (∃ d, owns (c : Thread nD τ) (sg3 t) fullShare ((dats m I out 0 c).before 3 t d))
    ∗ owns (c : Thread nD τ) (sg4 t) fullShare o)

/-- What it hands back, the output at what the point left there from some state of `I`. -/
def postAt (c : Dev nD) (t : Fin cfg0.N) (o : Vec F S512x4 .f32) : sProp 𝕄 :=
  iprop((dats m I out 0 c).Φ t.succ ∗ (dats m I out 0 c).owesAt () t.succ
    ∗ owns (c : Thread nD τ) (sg0 t) fullShare ((dats m I out 0 c).after 0 t)
    ∗ owns (c : Thread nD τ) (sg1 t) fullShare ((dats m I out 0 c).after 1 t)
    ∗ owns (c : Thread nD τ) (sg2 t) fullShare ((dats m I out 0 c).after 2 t)
    ∗ owns (c : Thread nD τ) (sg3 t) fullShare ((dats m I out 0 c).after 3 t)
    ∗ (∃ s, ⌜I c t.val s⌝ ∗ owns (c : Thread nD τ) (sg4 t) fullShare (outAt t.val (iblk m c 2 t) (iblk m c 3 t) s o)))

set_option maxHeartbeats 1000000 in
/-- The body at any point, for an invariant each step keeps. -/
theorem sound_point (hI : ∀ (c : Dev nD) (t : Fin cfg0.N) (s : St F), I c t.val s → I c (t.val + 1) (step t.val (iblk m c 0 t) (iblk m c 1 t) s))
    (c : Dev nD) (t : Fin cfg0.N) (o : Vec F S512x4 .f32) :
    preAt m I out c t o ⊢ wp frame (wpE (defs₀ (F := F)) Variants.none c none) Set.univ (bodyAt0 t) (fun _ => postAt m I out c t o) := by
  unfold preAt postAt bodyAt0
  simp only [before_0, before_1, before_2, before_3, after_0, after_1, after_2, after_3]
  rw [show (dats m I out 0 c).owesAt () t.succ = (dats m I out 0 c).owesAt () t.castSucc from rfl, inv_castSucc, inv_succ]
  unfold PhiI
  iintro ⟨⟨⟨%s, %hs, HS0, HS1, HS2⟩, Hg⟩, Ho, ⟨%d0, H0⟩, ⟨%d1, H1⟩, ⟨%d2, H2⟩, ⟨%d3, H3⟩, H4⟩
  iapply (run_point c t _ _ _ _ _ _ _ _ _ _ _ _ _ _ _ _ (iblk m c 0 t) (iblk m c 1 t) (iblk m c 2 t) (iblk m c 3 t) o s Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · iexists (step t.val (iblk m c 0 t) (iblk m c 1 t) s)
      isplitr; · ipureintro; exact hI c t s hs
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  iexists s
  isplitr; · ipureintro; exact hs
  iexact H4

/-- The launch's invariant enters `I` where every state is in `I 0`. -/
theorem enter (h0 : ∀ c s, I c 0 s) (c : Dev nD) : Pipeline.ΦA spec0 c ⊢ (dats m I out 0 c).Φ 0 := by
  rw [launchInv_eq, show (dats m I out 0 c).Φ 0 = PhiI I c 0 (Nat.zero_le _) from rfl]
  unfold PhiI
  iintro ⟨⟨⟨%d0, H0⟩, ⟨%d1, H1⟩, ⟨%d2, H2⟩⟩, Hg⟩
  isplitl [H0 H1 H2]
  · iexists (⟨d0, d1, d2⟩ : St F)
    isplitr; · ipureintro; exact h0 c _
    isplitl [H0]; · iexact H0
    isplitl [H1]; · iexact H1
    iexact H2
  iexact Hg

/-- And is had back at the end. -/
theorem leave (c : Dev nD) : (dats m I out 0 c).Φ (Fin.last cfg0.N) ⊢ Pipeline.ΦA spec0 c := by
  rw [launchInv_eq, show (dats m I out 0 c).Φ (Fin.last cfg0.N) = PhiI I c cfg0.N le_rfl from rfl]
  unfold PhiI
  iintro ⟨⟨%s, %hs, H0, H1, H2⟩, Hg⟩
  isplitl [H0 H1 H2]
  · isplitl [H0]; · iexists _; iexact H0
    isplitl [H1]; · iexists _; iexact H1
    iexists _; iexact H2
  iexact Hg

/-- The body's row is the printed body at the point. -/
theorem defs_row (t : Fin cfg0.N) : defs₀ (F := F) .tc cfg0.body (cfg0.bodyArgs t (cfg0.slots t)) = bodyAt0 t := by
  unfold defs₀; rw [Defs.onTc_tc]

end Cert.KernelIdeal.Hand

end
-- ==== Proof.Ideal.Frame.lean ====
/- The kernel's frame: it ends, its arguments as they were, at any contents. -/
module

public import proofs.«01_k».proof.Proof.Ideal.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's window is the one nothing is said of. -/
def forgets : Fin 5 → Bool := fun w => match w with
  | ⟨0, _⟩ => false
  | ⟨1, _⟩ => false
  | ⟨2, _⟩ => false
  | ⟨3, _⟩ => false
  | ⟨4, _⟩ => true

/-- The frame's data: any state, the output unnamed. -/
abbrev datsF (p : Fin 1) (c : Dev nD) : Dat τ (Elt F) Unit ℕ (UR sig nD τ) ℕ cfg0 c :=
  dats m (fun _ _ _ => True) (fun _ => constant S512x4 .f32 0x00000000#32) p c

/-- The body's precondition with the output at anything, and its postcondition. -/
def preF (c : Dev nD) (t : Fin cfg0.N) : sProp 𝕄 :=
  iprop((datsF m 0 c).Φ t.castSucc ∗ (datsF m 0 c).owesAt () t.castSucc
    ∗ (∃ d, owns (c : Thread nD τ) (sg0 t) fullShare ((datsF m 0 c).before 0 t d))
    ∗ (∃ d, owns (c : Thread nD τ) (sg1 t) fullShare ((datsF m 0 c).before 1 t d))
    ∗ (∃ d, owns (c : Thread nD τ) (sg2 t) fullShare ((datsF m 0 c).before 2 t d))
    ∗ (∃ d, owns (c : Thread nD τ) (sg3 t) fullShare ((datsF m 0 c).before 3 t d))
    ∗ (∃ X, owns (c : Thread nD τ) (sg4 t) fullShare X))
def postF (c : Dev nD) (t : Fin cfg0.N) : sProp 𝕄 :=
  iprop((datsF m 0 c).Φ t.succ ∗ (datsF m 0 c).owesAt () t.succ
    ∗ owns (c : Thread nD τ) (sg0 t) fullShare ((datsF m 0 c).after 0 t)
    ∗ owns (c : Thread nD τ) (sg1 t) fullShare ((datsF m 0 c).after 1 t)
    ∗ owns (c : Thread nD τ) (sg2 t) fullShare ((datsF m 0 c).after 2 t)
    ∗ owns (c : Thread nD τ) (sg3 t) fullShare ((datsF m 0 c).after 3 t)
    ∗ (∃ X, owns (c : Thread nD τ) (sg4 t) fullShare X))

theorem sound_F (c : Dev nD) (t : Fin cfg0.N) :
    preF m c t ⊢ wp frame (wpE (defs₀ (F := F)) Variants.none c none) Set.univ (bodyAt0 t) (fun _ => postF m c t) := by
  have key := fun o => sound_point m (fun _ _ _ => True) (fun _ => constant S512x4 .f32 0x00000000#32) (fun _ _ _ _ => trivial) c t o
  have hpre : preF m c t ⊢ iprop(∃ o, preAt m (fun _ _ _ => True) (fun _ => constant S512x4 .f32 0x00000000#32) c t o) := by
    unfold preF preAt
    iintro ⟨HP, Ho, H0, H1, H2, H3, ⟨%X, H4⟩⟩
    iexists X
    isplitl [HP]; · iexact HP
    isplitl [Ho]; · iexact Ho
    isplitl [H0]; · iexact H0
    isplitl [H1]; · iexact H1
    isplitl [H2]; · iexact H2
    isplitl [H3]; · iexact H3
    iexact H4
  have hpost : ∀ o, postAt m (fun _ _ _ => True) (fun _ => constant S512x4 .f32 0x00000000#32) c t o ⊢ postF m c t := by
    intro o
    unfold postF postAt
    iintro ⟨HP, Ho, H0, H1, H2, H3, ⟨%s, %hs, H4⟩⟩
    isplitl [HP]; · iexact HP
    isplitl [Ho]; · iexact Ho
    isplitl [H0]; · iexact H0
    isplitl [H1]; · iexact H1
    isplitl [H2]; · iexact H2
    isplitl [H3]; · iexact H3
    iexists _; iexact H4
  refine hpre.trans ?_
  iintro ⟨%o, H⟩
  iapply ((key o).trans ((wp frame (wpE (defs₀ (F := F)) Variants.none c none) Set.univ (bodyAt0 t)).mono (fun _ => hpost o)))
  iexact H

theorem obligation_F (c : Dev nD) : BodyObligation (datsF (F := F) m 0 c) (defs₀ (F := F)) Variants.none () Set.univ forgets := fun t => by
  rw [bigSep_W0, bigSep_W0, defs_row]
  exact triple_restated (sound_F m c t) rfl .rfl fun _ => .rfl

/-- What the host writes after the launch. -/
def tailWrites : Finset (Ref sig .tc) := {main_v9, main_v10, main_v11, main_v12, main_v13, main_v14, main_v15, main_v16, main_v17}

theorem tail_writes : ∀ ops ∈ ([hostOps1] : List (List (HloOp τ sig (Elt F)))), ∀ op ∈ ops, ∀ b : Ref sig .tc, Proc.devRef .tc b ∈ op.writes → b ∈ tailWrites := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals
    intro b hb
    simp only [StableHlo.unary_writes, StableHlo.reshape_writes, Finset.mem_singleton] at hb
    have e := Proc.devRef_injective _ hb
    subst e
    decide

set_option backward.isDefEq.respectTransparency.types false in
set_option maxHeartbeats 800000 in
/-- The launch at any contents: every buffer the host does not write afterwards ends as the launch found it. -/
theorem run_F :
    θ_run defs (onTc (τ := τ) (main (F := F))) (s₀ m ρ)
      (fun r => Pipeline.RDat.FramePostR (cfgs 0) (fun c => (datsF m 0 c).toRForget forgets) tailWrites (V m) r ∧ r.2.sem = fun _ => 0) :=
  Pipeline.θ_run_frame_around_T_track_forget (Q' := _) cfgs (datsF m) (0 : Fin 1) launch0 defs₀ Variants.none forgets tailWrites m ρ main
    (hbody := fun c => (obligation_F m c).loose) (hshare := fun c => (datsF m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m _ _) (hin := enter m _ _ fun _ _ => trivial) (hout := leave m _ _)

/-- The frame: the kernel ends, every semaphore at zero and the arguments as they were. -/
theorem frame_all :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩) (run_F m ρ)

end Cert.KernelIdeal.Hand

end
-- ==== Proof.Ref.lean ====
/-
  The run of the reference program: @main is a straight line of array operations (`StableHlo.seq`), the
  bodies of the functions it calls included. Each part of that line gets the function of its inputs that
  it computes; the run leaves the four results at the composition of those functions and the arguments
  as they were, with every semaphore counter at zero.
-/
module

public import proofs.«01_k».proof.Defs
public import Idealize.ShloMosaic.Lib.StableHlo.Run
public import Idealize.ShloMosaic.Lib.Quiescent
public import proofs.«01_k».proof.Proof.Gen.ReferenceIdeal

@[expose] public section

set_option maxRecDepth 4096

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The similarities of the descriptors. -/
def simsOf (x0 : (⟨S512x32x16x16, .f32⟩ : BufTy).Contents (Elt F)) (x1 : (⟨S4096x32x16x16, .f32⟩ : BufTy).Contents (Elt F)) : (⟨S512x4096, .f32⟩ : BufTy).Contents (Elt F) :=
  addf (Host.divf (Host.divf ((fun l r => Host.dotGeneral dot_S512x32x16x16_S4096x32x16x16_S512x4096_123_123_0_0_n_n none l r) x0 x1) (broadcastInDim S512x4096 ![] bcast_S_S512x4096 (constant S_ .f32 0x43800000#32))) (broadcastInDim S512x4096 ![] bcast_S_S512x4096 (constant S_ .f32 0x40000000#32))) (broadcastInDim S512x4096 ![] bcast_S_S512x4096 (constant S_ .f32 0x3F000000#32))

/-- The index of each row's maximum. -/
def argmaxOf (s : (⟨S512x4096, .f32⟩ : BufTy).Contents (Elt F)) : (⟨S512, .i32⟩ : BufTy).Contents (Elt F) :=
  (fun x y u v j => (Host.argReduce reducer_argmax_f32_i32 x y u v reducesTo_S512x4096_S512_d1 h_S_ j).2) s (iotaInDim S512x4096 32 1) (constant S_ .f32 0xFF800000#32) (constantI S_ 32 0#32)

/-- The maximum of each row. -/
def maxOf (s : (⟨S512x4096, .f32⟩ : BufTy).Contents (Elt F)) : (⟨S512, .f32⟩ : BufTy).Contents (Elt F) :=
  ((fun x v => Host.reduce FloatOps.maximumf x v reducesTo_S512x4096_S512_d1 h_S_) : (⟨S512x4096, .f32⟩ : BufTy).Contents (Elt F) → (⟨S_, .f32⟩ : BufTy).Contents (Elt F) → (⟨S512, .f32⟩ : BufTy).Contents (Elt F)) s (constant S_ .f32 0xFF800000#32)

/-- The points at the given indices. -/
def takePt1 (x : (⟨S4096x2, .i32⟩ : BufTy).Contents (Elt F)) (i : (⟨S512, .i32⟩ : BufTy).Contents (Elt F)) : (⟨S512x2, .i32⟩ : BufTy).Contents (Elt F) :=
  select ((broadcastInDim S512x2 ![0] bcast_S512_S512x2_0) ((fun x v => Host.reduce IntOp.andi x v reducesTo_S512x1_S512_d1 h_S_) (andi ((cmpi .sge) ((broadcastInDim S512x1 ![0] bcast_S512_S512x1_0) (select ((cmpi .slt) i ((broadcastInDim S512 ![] bcast_S_S512) (constantI S_ 32 0#32))) (addi i ((broadcastInDim S512 ![] bcast_S_S512) (constantI S_ 32 4096#32))) i)) ((broadcastInDim S512x1 ![] bcast_S_S512x1) (constantI S_ 32 0#32))) ((cmpi .sle) ((broadcastInDim S512x1 ![0] bcast_S512_S512x1_0) (select ((cmpi .slt) i ((broadcastInDim S512 ![] bcast_S_S512) (constantI S_ 32 0#32))) (addi i ((broadcastInDim S512 ![] bcast_S_S512) (constantI S_ 32 4096#32))) i)) ((broadcastInDim S512x1 ![0, 1] bcast_S1x1_S512x1_0_1) ((broadcastInDim S1x1 ![1] bcast_S1_S1x1_1) (constantI S1 32 4095#32))))) (constantI S_ 1 1#1))) ((fun x i => Host.gather gather_S4096x2_S512x1_S512x2_1_0_n_n_0_1_12 x i) x ((broadcastInDim S512x1 ![0] bcast_S512_S512x1_0) (select ((cmpi .slt) i ((broadcastInDim S512 ![] bcast_S_S512) (constantI S_ 32 0#32))) (addi i ((broadcastInDim S512 ![] bcast_S_S512) (constantI S_ 32 4096#32))) i))) ((broadcastInDim S512x2 ![] bcast_S_S512x2) (constantI S_ 32 2147483648#32))

/-- The ratio of each row's maximum to its maximum away from the matched point. -/
def ratioOf (s : (⟨S512x4096, .f32⟩ : BufTy).Contents (Elt F)) (r : (⟨S512, .f32⟩ : BufTy).Contents (Elt F)) (x : (⟨S4096x2, .i32⟩ : BufTy).Contents (Elt F)) (q : (⟨S512x2, .i32⟩ : BufTy).Contents (Elt F)) : (⟨S512, .f32⟩ : BufTy).Contents (Elt F) :=
  Host.divf r (((fun x v => Host.reduce FloatOps.maximumf x v reducesTo_S512x4096_S512_d1 h_S_) : (⟨S512x4096, .f32⟩ : BufTy).Contents (Elt F) → (⟨S_, .f32⟩ : BufTy).Contents (Elt F) → (⟨S512, .f32⟩ : BufTy).Contents (Elt F)) (select (cmpf .olt (((fun x v => Host.reduce FloatOps.maximumf x v reducesTo_S512x4096x2_S512x4096_d2 h_S_) : (⟨S512x4096x2, .f32⟩ : BufTy).Contents (Elt F) → (⟨S_, .f32⟩ : BufTy).Contents (Elt F) → (⟨S512x4096, .f32⟩ : BufTy).Contents (Elt F)) (Host.absf (subf (broadcastInDim S512x4096x2 ![0, 1, 2] bcast_S1x4096x2_S512x4096x2_0_1_2 (sitofp .f32 (broadcastInDim S1x4096x2 ![1, 2] bcast_S4096x2_S1x4096x2_1_2 x))) (broadcastInDim S512x4096x2 ![0, 1, 2] bcast_S512x1x2_S512x4096x2_0_1_2 (sitofp .f32 (broadcastInDim S512x1x2 ![0, 2] bcast_S512x2_S512x1x2_0_2 q))))) (constant S_ .f32 0xFF800000#32)) (broadcastInDim S512x4096 ![] bcast_S_S512x4096 (constant S_ .f32 0x42800000#32))) ((broadcastInDim S512x4096 ![] bcast_S_S512x4096) (id (constant S_ .f32 0x00000000#32))) s) (constant S_ .f32 0xFF800000#32))

/-- The descriptors at the given indices. -/
def takeFt1 (x : (⟨S4096x32x16x16, .f32⟩ : BufTy).Contents (Elt F)) (i : (⟨S512, .i32⟩ : BufTy).Contents (Elt F)) : (⟨S512x32x16x16, .f32⟩ : BufTy).Contents (Elt F) :=
  select ((broadcastInDim S512x32x16x16 ![0] bcast_S512_S512x32x16x16_0) ((fun x v => Host.reduce IntOp.andi x v reducesTo_S512x1_S512_d1 h_S_) (andi ((cmpi .sge) ((broadcastInDim S512x1 ![0] bcast_S512_S512x1_0) (select ((cmpi .slt) i ((broadcastInDim S512 ![] bcast_S_S512) (constantI S_ 32 0#32))) (addi i ((broadcastInDim S512 ![] bcast_S_S512) (constantI S_ 32 4096#32))) i)) ((broadcastInDim S512x1 ![] bcast_S_S512x1) (constantI S_ 32 0#32))) ((cmpi .sle) ((broadcastInDim S512x1 ![0] bcast_S512_S512x1_0) (select ((cmpi .slt) i ((broadcastInDim S512 ![] bcast_S_S512) (constantI S_ 32 0#32))) (addi i ((broadcastInDim S512 ![] bcast_S_S512) (constantI S_ 32 4096#32))) i)) ((broadcastInDim S512x1 ![0, 1] bcast_S1x1_S512x1_0_1) ((broadcastInDim S1x1 ![1] bcast_S1_S1x1_1) (constantI S1 32 4095#32))))) (constantI S_ 1 1#1))) ((fun x i => Host.gather gather_S4096x32x16x16_S512x1_S512x32x16x16_123_0_n_n_0_1_1321616 x i) x ((broadcastInDim S512x1 ![0] bcast_S512_S512x1_0) (select ((cmpi .slt) i ((broadcastInDim S512 ![] bcast_S_S512) (constantI S_ 32 0#32))) (addi i ((broadcastInDim S512 ![] bcast_S_S512) (constantI S_ 32 4096#32))) i))) ((broadcastInDim S512x32x16x16 ![] bcast_S_S512x32x16x16) (constant S_ .f32 0x7FC00000#32))

/-- The similarities of the matched descriptors with the first family. -/
def simsCyc (y : (⟨S512x32x16x16, .f32⟩ : BufTy).Contents (Elt F)) (x0 : (⟨S512x32x16x16, .f32⟩ : BufTy).Contents (Elt F)) : (⟨S512x512, .f32⟩ : BufTy).Contents (Elt F) :=
  addf (Host.divf (Host.divf ((fun l r => Host.dotGeneral dot_S512x32x16x16_S512x32x16x16_S512x512_123_123_0_0_n_n none l r) y x0) (broadcastInDim S512x512 ![] bcast_S_S512x512 (constant S_ .f32 0x43800000#32))) (broadcastInDim S512x512 ![] bcast_S_S512x512 (constant S_ .f32 0x40000000#32))) (broadcastInDim S512x512 ![] bcast_S_S512x512 (constant S_ .f32 0x3F000000#32))

/-- The index of each row's maximum, 512 columns. -/
def argmaxCyc (s : (⟨S512x512, .f32⟩ : BufTy).Contents (Elt F)) : (⟨S512, .i32⟩ : BufTy).Contents (Elt F) :=
  (fun x y u v j => (Host.argReduce reducer_argmax_f32_i32 x y u v reducesTo_S512x512_S512_d1 h_S_ j).2) s (iotaInDim S512x512 32 1) (constant S_ .f32 0xFF800000#32) (constantI S_ 32 0#32)

/-- The points of the first family at the given indices. -/
def takePt0 (x : (⟨S512x2, .i32⟩ : BufTy).Contents (Elt F)) (i : (⟨S512, .i32⟩ : BufTy).Contents (Elt F)) : (⟨S512x2, .i32⟩ : BufTy).Contents (Elt F) :=
  select ((broadcastInDim S512x2 ![0] bcast_S512_S512x2_0) ((fun x v => Host.reduce IntOp.andi x v reducesTo_S512x1_S512_d1 h_S_) (andi ((cmpi .sge) ((broadcastInDim S512x1 ![0] bcast_S512_S512x1_0) (select ((cmpi .slt) i ((broadcastInDim S512 ![] bcast_S_S512) (constantI S_ 32 0#32))) (addi i ((broadcastInDim S512 ![] bcast_S_S512) (constantI S_ 32 512#32))) i)) ((broadcastInDim S512x1 ![] bcast_S_S512x1) (constantI S_ 32 0#32))) ((cmpi .sle) ((broadcastInDim S512x1 ![0] bcast_S512_S512x1_0) (select ((cmpi .slt) i ((broadcastInDim S512 ![] bcast_S_S512) (constantI S_ 32 0#32))) (addi i ((broadcastInDim S512 ![] bcast_S_S512) (constantI S_ 32 512#32))) i)) ((broadcastInDim S512x1 ![0, 1] bcast_S1x1_S512x1_0_1) ((broadcastInDim S1x1 ![1] bcast_S1_S1x1_1) (constantI S1 32 511#32))))) (constantI S_ 1 1#1))) ((fun x i => Host.gather gather_S512x2_S512x1_S512x2_1_0_n_n_0_1_12 x i) x ((broadcastInDim S512x1 ![0] bcast_S512_S512x1_0) (select ((cmpi .slt) i ((broadcastInDim S512 ![] bcast_S_S512) (constantI S_ 32 0#32))) (addi i ((broadcastInDim S512 ![] bcast_S_S512) (constantI S_ 32 512#32))) i))) ((broadcastInDim S512x2 ![] bcast_S_S512x2) (constantI S_ 32 2147483648#32))

/-- The distance of two families of points. -/
def distOf (q : (⟨S512x2, .i32⟩ : BufTy).Contents (Elt F)) (x : (⟨S512x2, .i32⟩ : BufTy).Contents (Elt F)) : (⟨S512, .f32⟩ : BufTy).Contents (Elt F) :=
  Host.sqrt ((fun x v => Host.reduceAdd x v reducesTo_S512x2_S512_d1 h_S_) (mulf (sitofp .f32 (subi q x)) (sitofp .f32 (subi q x))) (constant S_ .f32 0x00000000#32))

/-- Part 0 of @main's operations, in order. -/
abbrev ops0 : List (HloOp τ sig (Elt F)) :=
  [ binary main_arg0 main_arg1 main_v0 ((fun l r => Host.dotGeneral dot_S512x32x16x16_S4096x32x16x16_S512x4096_123_123_0_0_n_n none l r) : (⟨S512x32x16x16, .f32⟩ : BufTy).Contents (Elt F) → (⟨S4096x32x16x16, .f32⟩ : BufTy).Contents (Elt F) → (⟨S512x4096, .f32⟩ : BufTy).Contents (Elt F)),
    nullary main_cst (constant S_ .f32 0x43800000#32),
    unary main_cst main_v1 (broadcastInDim S512x4096 ![] bcast_S_S512x4096 : (⟨S_, .f32⟩ : BufTy).Contents (Elt F) → (⟨S512x4096, .f32⟩ : BufTy).Contents (Elt F)),
    binary main_v0 main_v1 main_v2 (Host.divf : (⟨S512x4096, .f32⟩ : BufTy).Contents (Elt F) → (⟨S512x4096, .f32⟩ : BufTy).Contents (Elt F) → (⟨S512x4096, .f32⟩ : BufTy).Contents (Elt F)),
    nullary main_cst_0 (constant S_ .f32 0x40000000#32),
    unary main_cst_0 main_v3 (broadcastInDim S512x4096 ![] bcast_S_S512x4096 : (⟨S_, .f32⟩ : BufTy).Contents (Elt F) → (⟨S512x4096, .f32⟩ : BufTy).Contents (Elt F)),
    binary main_v2 main_v3 main_v4 (Host.divf : (⟨S512x4096, .f32⟩ : BufTy).Contents (Elt F) → (⟨S512x4096, .f32⟩ : BufTy).Contents (Elt F) → (⟨S512x4096, .f32⟩ : BufTy).Contents (Elt F)),
    nullary main_cst_1 (constant S_ .f32 0x3F000000#32),
    unary main_cst_1 main_v5 (broadcastInDim S512x4096 ![] bcast_S_S512x4096 : (⟨S_, .f32⟩ : BufTy).Contents (Elt F) → (⟨S512x4096, .f32⟩ : BufTy).Contents (Elt F)),
    binary main_v4 main_v5 main_v6 (addf : (⟨S512x4096, .f32⟩ : BufTy).Contents (Elt F) → (⟨S512x4096, .f32⟩ : BufTy).Contents (Elt F) → (⟨S512x4096, .f32⟩ : BufTy).Contents (Elt F)),
    nullary main_call0_v0 ((iotaInDim S512x4096 32 1) : (⟨S512x4096, .i32⟩ : BufTy).Contents (Elt F)),
    nullary main_call0_cst ((constant S_ .f32 0xFF800000#32) : (⟨S_, .f32⟩ : BufTy).Contents (Elt F)),
    nullary main_call0_c ((constantI S_ 32 0#32) : (⟨S_, .i32⟩ : BufTy).Contents (Elt F)),
    quaternary main_v6 main_call0_v0 main_call0_cst main_call0_c main_call0_v1_0 ((fun x y u v j => (Host.argReduce reducer_argmax_f32_i32 x y u v reducesTo_S512x4096_S512_d1 h_S_ j).1) : (⟨S512x4096, .f32⟩ : BufTy).Contents (Elt F) → (⟨S512x4096, .i32⟩ : BufTy).Contents (Elt F) → (⟨S_, .f32⟩ : BufTy).Contents (Elt F) → (⟨S_, .i32⟩ : BufTy).Contents (Elt F) → (⟨S512, .f32⟩ : BufTy).Contents (Elt F)),
    quaternary main_v6 main_call0_v0 main_call0_cst main_call0_c main_v7 ((fun x y u v j => (Host.argReduce reducer_argmax_f32_i32 x y u v reducesTo_S512x4096_S512_d1 h_S_ j).2) : (⟨S512x4096, .f32⟩ : BufTy).Contents (Elt F) → (⟨S512x4096, .i32⟩ : BufTy).Contents (Elt F) → (⟨S_, .f32⟩ : BufTy).Contents (Elt F) → (⟨S_, .i32⟩ : BufTy).Contents (Elt F) → (⟨S512, .i32⟩ : BufTy).Contents (Elt F)),
    nullary main_cst_2 (constant S_ .f32 0xFF800000#32),
    binary main_v6 main_cst_2 main_v8 ((fun x v => Host.reduce FloatOps.maximumf x v reducesTo_S512x4096_S512_d1 h_S_) : (⟨S512x4096, .f32⟩ : BufTy).Contents (Elt F) → (⟨S_, .f32⟩ : BufTy).Contents (Elt F) → (⟨S512, .f32⟩ : BufTy).Contents (Elt F)) ]

theorem sub0 : (ops0 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., nullary_bufs_sub .., quaternary_bufs_sub .., quaternary_bufs_sub .., nullary_bufs_sub .., binary_bufs_sub ..⟩

/-- Part 1 of @main's operations, in order. -/
abbrev ops1 : List (HloOp τ sig (Elt F)) :=
  [ nullary main_call1_c ((constantI S_ 32 0#32) : (⟨S_, .i32⟩ : BufTy).Contents (Elt F)),
    unary main_call1_c main_call1_v0 ((broadcastInDim S512 ![] bcast_S_S512) : (⟨S_, .i32⟩ : BufTy).Contents (Elt F) → (⟨S512, .i32⟩ : BufTy).Contents (Elt F)),
    binary main_v7 main_call1_v0 main_call1_v1 ((cmpi .slt) : (⟨S512, .i32⟩ : BufTy).Contents (Elt F) → (⟨S512, .i32⟩ : BufTy).Contents (Elt F) → (⟨S512, .i1⟩ : BufTy).Contents (Elt F)),
    nullary main_call1_c_0 ((constantI S_ 32 4096#32) : (⟨S_, .i32⟩ : BufTy).Contents (Elt F)),
    unary main_call1_c_0 main_call1_v2 ((broadcastInDim S512 ![] bcast_S_S512) : (⟨S_, .i32⟩ : BufTy).Contents (Elt F) → (⟨S512, .i32⟩ : BufTy).Contents (Elt F)),
    binary main_v7 main_call1_v2 main_call1_v3 (addi : (⟨S512, .i32⟩ : BufTy).Contents (Elt F) → (⟨S512, .i32⟩ : BufTy).Contents (Elt F) → (⟨S512, .i32⟩ : BufTy).Contents (Elt F)),
    ternary main_call1_v1 main_call1_v3 main_v7 main_call1_v4 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_call1_v4 main_call1_v5 ((broadcastInDim S512x1 ![0] bcast_S512_S512x1_0) : (⟨S512, .i32⟩ : BufTy).Contents (Elt F) → (⟨S512x1, .i32⟩ : BufTy).Contents (Elt F)),
    nullary main_call1_c_1 ((constantI S1 32 4095#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S512x1 ![] bcast_S_S512x1) : (⟨S_, .i32⟩ : BufTy).Contents (Elt F) → (⟨S512x1, .i32⟩ : BufTy).Contents (Elt F)),
    binary main_call1_v5 main_call1_v6 main_call1_v7 ((cmpi .sge) : (⟨S512x1, .i32⟩ : BufTy).Contents (Elt F) → (⟨S512x1, .i32⟩ : BufTy).Contents (Elt F) → (⟨S512x1, .i1⟩ : BufTy).Contents (Elt F)),
    unary main_call1_c_1 main_call1_v8 ((broadcastInDim S1x1 ![1] bcast_S1_S1x1_1) : (⟨S1, .i32⟩ : BufTy).Contents (Elt F) → (⟨S1x1, .i32⟩ : BufTy).Contents (Elt F)),
    unary main_call1_v8 main_call1_v9 ((broadcastInDim S512x1 ![0, 1] bcast_S1x1_S512x1_0_1) : (⟨S1x1, .i32⟩ : BufTy).Contents (Elt F) → (⟨S512x1, .i32⟩ : BufTy).Contents (Elt F)),
    binary main_call1_v5 main_call1_v9 main_call1_v10 ((cmpi .sle) : (⟨S512x1, .i32⟩ : BufTy).Contents (Elt F) → (⟨S512x1, .i32⟩ : BufTy).Contents (Elt F) → (⟨S512x1, .i1⟩ : BufTy).Contents (Elt F)),
    binary main_call1_v7 main_call1_v10 main_call1_v11 (andi : (⟨S512x1, .i1⟩ : BufTy).Contents (Elt F) → (⟨S512x1, .i1⟩ : BufTy).Contents (Elt F) → (⟨S512x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S512x1_S512_d1 h_S_) : (⟨S512x1, .i1⟩ : BufTy).Contents (Elt F) → (⟨S_, .i1⟩ : BufTy).Contents (Elt F) → (⟨S512, .i1⟩ : BufTy).Contents (Elt F)),
    binary main_arg3 main_call1_v5 main_call1_v13 ((fun x i => Host.gather gather_S4096x2_S512x1_S512x2_1_0_n_n_0_1_12 x i) : (⟨S4096x2, .i32⟩ : BufTy).Contents (Elt F) → (⟨S512x1, .i32⟩ : BufTy).Contents (Elt F) → (⟨S512x2, .i32⟩ : BufTy).Contents (Elt F)),
    unary main_call1_v12 main_call1_v14 ((broadcastInDim S512x2 ![0] bcast_S512_S512x2_0) : (⟨S512, .i1⟩ : BufTy).Contents (Elt F) → (⟨S512x2, .i1⟩ : BufTy).Contents (Elt F)),
    nullary main_call1_c_4 ((constantI S_ 32 2147483648#32) : (⟨S_, .i32⟩ : BufTy).Contents (Elt F)),
    unary main_call1_c_4 main_call1_v15 ((broadcastInDim S512x2 ![] bcast_S_S512x2) : (⟨S_, .i32⟩ : BufTy).Contents (Elt F) → (⟨S512x2, .i32⟩ : BufTy).Contents (Elt F)),
    ternary main_call1_v14 main_call1_v13 main_call1_v15 main_v9 (select : (⟨S512x2, .i1⟩ : BufTy).Contents (Elt F) → (⟨S512x2, .i32⟩ : BufTy).Contents (Elt F) → (⟨S512x2, .i32⟩ : BufTy).Contents (Elt F) → (⟨S512x2, .i32⟩ : BufTy).Contents (Elt F)) ]

theorem sub1 : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Part 2 of @main's operations, in order. -/
abbrev ops2 : List (HloOp τ sig (Elt F)) :=
  [ unary main_arg3 main_v10 (broadcastInDim S1x4096x2 ![1, 2] bcast_S4096x2_S1x4096x2_1_2 : (⟨S4096x2, .i32⟩ : BufTy).Contents (Elt F) → (⟨S1x4096x2, .i32⟩ : BufTy).Contents (Elt F)),
    unary main_v10 main_v11 (sitofp .f32 : (⟨S1x4096x2, .i32⟩ : BufTy).Contents (Elt F) → (⟨S1x4096x2, .f32⟩ : BufTy).Contents (Elt F)),
    unary main_v9 main_v12 (broadcastInDim S512x1x2 ![0, 2] bcast_S512x2_S512x1x2_0_2 : (⟨S512x2, .i32⟩ : BufTy).Contents (Elt F) → (⟨S512x1x2, .i32⟩ : BufTy).Contents (Elt F)),
    unary main_v12 main_v13 (sitofp .f32 : (⟨S512x1x2, .i32⟩ : BufTy).Contents (Elt F) → (⟨S512x1x2, .f32⟩ : BufTy).Contents (Elt F)),
    unary main_v11 main_v14 (broadcastInDim S512x4096x2 ![0, 1, 2] bcast_S1x4096x2_S512x4096x2_0_1_2 : (⟨S1x4096x2, .f32⟩ : BufTy).Contents (Elt F) → (⟨S512x4096x2, .f32⟩ : BufTy).Contents (Elt F)),
    unary main_v13 main_v15 (broadcastInDim S512x4096x2 ![0, 1, 2] bcast_S512x1x2_S512x4096x2_0_1_2 : (⟨S512x1x2, .f32⟩ : BufTy).Contents (Elt F) → (⟨S512x4096x2, .f32⟩ : BufTy).Contents (Elt F)),
    binary main_v14 main_v15 main_v16 (subf : (⟨S512x4096x2, .f32⟩ : BufTy).Contents (Elt F) → (⟨S512x4096x2, .f32⟩ : BufTy).Contents (Elt F) → (⟨S512x4096x2, .f32⟩ : BufTy).Contents (Elt F)),
    unary main_v16 main_v17 (Host.absf : (⟨S512x4096x2, .f32⟩ : BufTy).Contents (Elt F) → (⟨S512x4096x2, .f32⟩ : BufTy).Contents (Elt F)),
    nullary main_cst_3 (constant S_ .f32 0xFF800000#32),
    binary main_v17 main_cst_3 main_v18 ((fun x v => Host.reduce FloatOps.maximumf x v reducesTo_S512x4096x2_S512x4096_d2 h_S_) : (⟨S512x4096x2, .f32⟩ : BufTy).Contents (Elt F) → (⟨S_, .f32⟩ : BufTy).Contents (Elt F) → (⟨S512x4096, .f32⟩ : BufTy).Contents (Elt F)),
    nullary main_cst_4 (constant S_ .f32 0x42800000#32),
    unary main_cst_4 main_v19 (broadcastInDim S512x4096 ![] bcast_S_S512x4096 : (⟨S_, .f32⟩ : BufTy).Contents (Elt F) → (⟨S512x4096, .f32⟩ : BufTy).Contents (Elt F)),
    binary main_v18 main_v19 main_v20 (cmpf .olt : (⟨S512x4096, .f32⟩ : BufTy).Contents (Elt F) → (⟨S512x4096, .f32⟩ : BufTy).Contents (Elt F) → (⟨S512x4096, .i1⟩ : BufTy).Contents (Elt F)),
    nullary main_cst_5 (constant S_ .f32 0x00000000#32),
    unary main_cst_5 main_call2_v0 (id : (⟨S_, .f32⟩ : BufTy).Contents (Elt F) → (⟨S_, .f32⟩ : BufTy).Contents (Elt F)),
    unary main_call2_v0 main_call2_v1 ((broadcastInDim S512x4096 ![] bcast_S_S512x4096) : (⟨S_, .f32⟩ : BufTy).Contents (Elt F) → (⟨S512x4096, .f32⟩ : BufTy).Contents (Elt F)),
    ternary main_v20 main_call2_v1 main_v6 main_v21 (select : (⟨S512x4096, .i1⟩ : BufTy).Contents (Elt F) → (⟨S512x4096, .f32⟩ : BufTy).Contents (Elt F) → (⟨S512x4096, .f32⟩ : BufTy).Contents (Elt F) → (⟨S512x4096, .f32⟩ : BufTy).Contents (Elt F)),
    nullary main_cst_6 (constant S_ .f32 0xFF800000#32),
    binary main_v21 main_cst_6 main_v22 ((fun x v => Host.reduce FloatOps.maximumf x v reducesTo_S512x4096_S512_d1 h_S_) : (⟨S512x4096, .f32⟩ : BufTy).Contents (Elt F) → (⟨S_, .f32⟩ : BufTy).Contents (Elt F) → (⟨S512, .f32⟩ : BufTy).Contents (Elt F)),
    binary main_v8 main_v22 main_v23 (Host.divf : (⟨S512, .f32⟩ : BufTy).Contents (Elt F) → (⟨S512, .f32⟩ : BufTy).Contents (Elt F) → (⟨S512, .f32⟩ : BufTy).Contents (Elt F)) ]

theorem sub2 : (ops2 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., binary_bufs_sub .., binary_bufs_sub ..⟩

/-- Part 3 of @main's operations, in order. -/
abbrev ops3 : List (HloOp τ sig (Elt F)) :=
  [ nullary main_call3_c ((constantI S_ 32 0#32) : (⟨S_, .i32⟩ : BufTy).Contents (Elt F)),
    unary main_call3_c main_call3_v0 ((broadcastInDim S512 ![] bcast_S_S512) : (⟨S_, .i32⟩ : BufTy).Contents (Elt F) → (⟨S512, .i32⟩ : BufTy).Contents (Elt F)),
    binary main_v7 main_call3_v0 main_call3_v1 ((cmpi .slt) : (⟨S512, .i32⟩ : BufTy).Contents (Elt F) → (⟨S512, .i32⟩ : BufTy).Contents (Elt F) → (⟨S512, .i1⟩ : BufTy).Contents (Elt F)),
    nullary main_call3_c_0 ((constantI S_ 32 4096#32) : (⟨S_, .i32⟩ : BufTy).Contents (Elt F)),
    unary main_call3_c_0 main_call3_v2 ((broadcastInDim S512 ![] bcast_S_S512) : (⟨S_, .i32⟩ : BufTy).Contents (Elt F) → (⟨S512, .i32⟩ : BufTy).Contents (Elt F)),
    binary main_v7 main_call3_v2 main_call3_v3 (addi : (⟨S512, .i32⟩ : BufTy).Contents (Elt F) → (⟨S512, .i32⟩ : BufTy).Contents (Elt F) → (⟨S512, .i32⟩ : BufTy).Contents (Elt F)),
    ternary main_call3_v1 main_call3_v3 main_v7 main_call3_v4 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_call3_v4 main_call3_v5 ((broadcastInDim S512x1 ![0] bcast_S512_S512x1_0) : (⟨S512, .i32⟩ : BufTy).Contents (Elt F) → (⟨S512x1, .i32⟩ : BufTy).Contents (Elt F)),
    nullary main_call3_c_1 ((constantI S1 32 4095#32) : (⟨S1, .i32⟩ : BufTy).Contents (Elt F)),
    nullary main_call3_c_2 ((constantI S_ 32 0#32) : (⟨S_, .i32⟩ : BufTy).Contents (Elt F)),
    unary main_call3_c_2 main_call3_v6 ((broadcastInDim S512x1 ![] bcast_S_S512x1) : (⟨S_, .i32⟩ : BufTy).Contents (Elt F) → (⟨S512x1, .i32⟩ : BufTy).Contents (Elt F)),
    binary main_call3_v5 main_call3_v6 main_call3_v7 ((cmpi .sge) : (⟨S512x1, .i32⟩ : BufTy).Contents (Elt F) → (⟨S512x1, .i32⟩ : BufTy).Contents (Elt F) → (⟨S512x1, .i1⟩ : BufTy).Contents (Elt F)),
    unary main_call3_c_1 main_call3_v8 ((broadcastInDim S1x1 ![1] bcast_S1_S1x1_1) : (⟨S1, .i32⟩ : BufTy).Contents (Elt F) → (⟨S1x1, .i32⟩ : BufTy).Contents (Elt F)),
    unary main_call3_v8 main_call3_v9 ((broadcastInDim S512x1 ![0, 1] bcast_S1x1_S512x1_0_1) : (⟨S1x1, .i32⟩ : BufTy).Contents (Elt F) → (⟨S512x1, .i32⟩ : BufTy).Contents (Elt F)),
    binary main_call3_v5 main_call3_v9 main_call3_v10 ((cmpi .sle) : (⟨S512x1, .i32⟩ : BufTy).Contents (Elt F) → (⟨S512x1, .i32⟩ : BufTy).Contents (Elt F) → (⟨S512x1, .i1⟩ : BufTy).Contents (Elt F)),
    binary main_call3_v7 main_call3_v10 main_call3_v11 (andi : (⟨S512x1, .i1⟩ : BufTy).Contents (Elt F) → (⟨S512x1, .i1⟩ : BufTy).Contents (Elt F) → (⟨S512x1, .i1⟩ : BufTy).Contents (Elt F)),
    nullary main_call3_c_3 ((constantI S_ 1 1#1) : (⟨S_, .i1⟩ : BufTy).Contents (Elt F)),
    binary main_call3_v11 main_call3_c_3 main_call3_v12 ((fun x v => Host.reduce IntOp.andi x v reducesTo_S512x1_S512_d1 h_S_) : (⟨S512x1, .i1⟩ : BufTy).Contents (Elt F) → (⟨S_, .i1⟩ : BufTy).Contents (Elt F) → (⟨S512, .i1⟩ : BufTy).Contents (Elt F)),
    binary main_arg1 main_call3_v5 main_call3_v13 ((fun x i => Host.gather gather_S4096x32x16x16_S512x1_S512x32x16x16_123_0_n_n_0_1_1321616 x i) : (⟨S4096x32x16x16, .f32⟩ : BufTy).Contents (Elt F) → (⟨S512x1, .i32⟩ : BufTy).Contents (Elt F) → (⟨S512x32x16x16, .f32⟩ : BufTy).Contents (Elt F)),
    unary main_call3_v12 main_call3_v14 ((broadcastInDim S512x32x16x16 ![0] bcast_S512_S512x32x16x16_0) : (⟨S512, .i1⟩ : BufTy).Contents (Elt F) → (⟨S512x32x16x16, .i1⟩ : BufTy).Contents (Elt F)),
    nullary main_call3_cst ((constant S_ .f32 0x7FC00000#32) : (⟨S_, .f32⟩ : BufTy).Contents (Elt F)),
    unary main_call3_cst main_call3_v15 ((broadcastInDim S512x32x16x16 ![] bcast_S_S512x32x16x16) : (⟨S_, .f32⟩ : BufTy).Contents (Elt F) → (⟨S512x32x16x16, .f32⟩ : BufTy).Contents (Elt F)),
    ternary main_call3_v14 main_call3_v13 main_call3_v15 main_v24 (select : (⟨S512x32x16x16, .i1⟩ : BufTy).Contents (Elt F) → (⟨S512x32x16x16, .f32⟩ : BufTy).Contents (Elt F) → (⟨S512x32x16x16, .f32⟩ : BufTy).Contents (Elt F) → (⟨S512x32x16x16, .f32⟩ : BufTy).Contents (Elt F)) ]

theorem sub3 : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Part 4 of @main's operations, in order. -/
abbrev ops4 : List (HloOp τ sig (Elt F)) :=
  [ binary main_v24 main_arg0 main_v25 ((fun l r => Host.dotGeneral dot_S512x32x16x16_S512x32x16x16_S512x512_123_123_0_0_n_n none l r) : (⟨S512x32x16x16, .f32⟩ : BufTy).Contents (Elt F) → (⟨S512x32x16x16, .f32⟩ : BufTy).Contents (Elt F) → (⟨S512x512, .f32⟩ : BufTy).Contents (Elt F)),
    nullary main_cst_7 (constant S_ .f32 0x43800000#32),
    unary main_cst_7 main_v26 (broadcastInDim S512x512 ![] bcast_S_S512x512 : (⟨S_, .f32⟩ : BufTy).Contents (Elt F) → (⟨S512x512, .f32⟩ : BufTy).Contents (Elt F)),
    binary main_v25 main_v26 main_v27 (Host.divf : (⟨S512x512, .f32⟩ : BufTy).Contents (Elt F) → (⟨S512x512, .f32⟩ : BufTy).Contents (Elt F) → (⟨S512x512, .f32⟩ : BufTy).Contents (Elt F)),
    nullary main_cst_8 (constant S_ .f32 0x40000000#32),
    unary main_cst_8 main_v28 (broadcastInDim S512x512 ![] bcast_S_S512x512 : (⟨S_, .f32⟩ : BufTy).Contents (Elt F) → (⟨S512x512, .f32⟩ : BufTy).Contents (Elt F)),
    binary main_v27 main_v28 main_v29 (Host.divf : (⟨S512x512, .f32⟩ : BufTy).Contents (Elt F) → (⟨S512x512, .f32⟩ : BufTy).Contents (Elt F) → (⟨S512x512, .f32⟩ : BufTy).Contents (Elt F)),
    nullary main_cst_9 (constant S_ .f32 0x3F000000#32),
    unary main_cst_9 main_v30 (broadcastInDim S512x512 ![] bcast_S_S512x512 : (⟨S_, .f32⟩ : BufTy).Contents (Elt F) → (⟨S512x512, .f32⟩ : BufTy).Contents (Elt F)),
    binary main_v29 main_v30 main_v31 (addf : (⟨S512x512, .f32⟩ : BufTy).Contents (Elt F) → (⟨S512x512, .f32⟩ : BufTy).Contents (Elt F) → (⟨S512x512, .f32⟩ : BufTy).Contents (Elt F)),
    nullary main_call4_v0 ((iotaInDim S512x512 32 1) : (⟨S512x512, .i32⟩ : BufTy).Contents (Elt F)),
    nullary main_call4_cst ((constant S_ .f32 0xFF800000#32) : (⟨S_, .f32⟩ : BufTy).Contents (Elt F)),
    nullary main_call4_c ((constantI S_ 32 0#32) : (⟨S_, .i32⟩ : BufTy).Contents (Elt F)),
    quaternary main_v31 main_call4_v0 main_call4_cst main_call4_c main_call4_v1_0 ((fun x y u v j => (Host.argReduce reducer_argmax_f32_i32 x y u v reducesTo_S512x512_S512_d1 h_S_ j).1) : (⟨S512x512, .f32⟩ : BufTy).Contents (Elt F) → (⟨S512x512, .i32⟩ : BufTy).Contents (Elt F) → (⟨S_, .f32⟩ : BufTy).Contents (Elt F) → (⟨S_, .i32⟩ : BufTy).Contents (Elt F) → (⟨S512, .f32⟩ : BufTy).Contents (Elt F)),
    quaternary main_v31 main_call4_v0 main_call4_cst main_call4_c main_v32 ((fun x y u v j => (Host.argReduce reducer_argmax_f32_i32 x y u v reducesTo_S512x512_S512_d1 h_S_ j).2) : (⟨S512x512, .f32⟩ : BufTy).Contents (Elt F) → (⟨S512x512, .i32⟩ : BufTy).Contents (Elt F) → (⟨S_, .f32⟩ : BufTy).Contents (Elt F) → (⟨S_, .i32⟩ : BufTy).Contents (Elt F) → (⟨S512, .i32⟩ : BufTy).Contents (Elt F)) ]

theorem sub4 : (ops4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., nullary_bufs_sub .., quaternary_bufs_sub .., quaternary_bufs_sub ..⟩

/-- Part 5 of @main's operations, in order. -/
abbrev ops5 : List (HloOp τ sig (Elt F)) :=
  [ nullary main_call5_c ((constantI S_ 32 0#32) : (⟨S_, .i32⟩ : BufTy).Contents (Elt F)),
    unary main_call5_c main_call5_v0 ((broadcastInDim S512 ![] bcast_S_S512) : (⟨S_, .i32⟩ : BufTy).Contents (Elt F) → (⟨S512, .i32⟩ : BufTy).Contents (Elt F)),
    binary main_v32 main_call5_v0 main_call5_v1 ((cmpi .slt) : (⟨S512, .i32⟩ : BufTy).Contents (Elt F) → (⟨S512, .i32⟩ : BufTy).Contents (Elt F) → (⟨S512, .i1⟩ : BufTy).Contents (Elt F)),
    nullary main_call5_c_0 ((constantI S_ 32 512#32) : (⟨S_, .i32⟩ : BufTy).Contents (Elt F)),
    unary main_call5_c_0 main_call5_v2 ((broadcastInDim S512 ![] bcast_S_S512) : (⟨S_, .i32⟩ : BufTy).Contents (Elt F) → (⟨S512, .i32⟩ : BufTy).Contents (Elt F)),
    binary main_v32 main_call5_v2 main_call5_v3 (addi : (⟨S512, .i32⟩ : BufTy).Contents (Elt F) → (⟨S512, .i32⟩ : BufTy).Contents (Elt F) → (⟨S512, .i32⟩ : BufTy).Contents (Elt F)),
    ternary main_call5_v1 main_call5_v3 main_v32 main_call5_v4 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_call5_v4 main_call5_v5 ((broadcastInDim S512x1 ![0] bcast_S512_S512x1_0) : (⟨S512, .i32⟩ : BufTy).Contents (Elt F) → (⟨S512x1, .i32⟩ : BufTy).Contents (Elt F)),
    nullary main_call5_c_1 ((constantI S1 32 511#32) : (⟨S1, .i32⟩ : BufTy).Contents (Elt F)),
    nullary main_call5_c_2 ((constantI S_ 32 0#32) : (⟨S_, .i32⟩ : BufTy).Contents (Elt F)),
    unary main_call5_c_2 main_call5_v6 ((broadcastInDim S512x1 ![] bcast_S_S512x1) : (⟨S_, .i32⟩ : BufTy).Contents (Elt F) → (⟨S512x1, .i32⟩ : BufTy).Contents (Elt F)),
    binary main_call5_v5 main_call5_v6 main_call5_v7 ((cmpi .sge) : (⟨S512x1, .i32⟩ : BufTy).Contents (Elt F) → (⟨S512x1, .i32⟩ : BufTy).Contents (Elt F) → (⟨S512x1, .i1⟩ : BufTy).Contents (Elt F)),
    unary main_call5_c_1 main_call5_v8 ((broadcastInDim S1x1 ![1] bcast_S1_S1x1_1) : (⟨S1, .i32⟩ : BufTy).Contents (Elt F) → (⟨S1x1, .i32⟩ : BufTy).Contents (Elt F)),
    unary main_call5_v8 main_call5_v9 ((broadcastInDim S512x1 ![0, 1] bcast_S1x1_S512x1_0_1) : (⟨S1x1, .i32⟩ : BufTy).Contents (Elt F) → (⟨S512x1, .i32⟩ : BufTy).Contents (Elt F)),
    binary main_call5_v5 main_call5_v9 main_call5_v10 ((cmpi .sle) : (⟨S512x1, .i32⟩ : BufTy).Contents (Elt F) → (⟨S512x1, .i32⟩ : BufTy).Contents (Elt F) → (⟨S512x1, .i1⟩ : BufTy).Contents (Elt F)),
    binary main_call5_v7 main_call5_v10 main_call5_v11 (andi : (⟨S512x1, .i1⟩ : BufTy).Contents (Elt F) → (⟨S512x1, .i1⟩ : BufTy).Contents (Elt F) → (⟨S512x1, .i1⟩ : BufTy).Contents (Elt F)),
    nullary main_call5_c_3 ((constantI S_ 1 1#1) : (⟨S_, .i1⟩ : BufTy).Contents (Elt F)),
    binary main_call5_v11 main_call5_c_3 main_call5_v12 ((fun x v => Host.reduce IntOp.andi x v reducesTo_S512x1_S512_d1 h_S_) : (⟨S512x1, .i1⟩ : BufTy).Contents (Elt F) → (⟨S_, .i1⟩ : BufTy).Contents (Elt F) → (⟨S512, .i1⟩ : BufTy).Contents (Elt F)),
    binary main_arg2 main_call5_v5 main_call5_v13 ((fun x i => Host.gather gather_S512x2_S512x1_S512x2_1_0_n_n_0_1_12 x i) : (⟨S512x2, .i32⟩ : BufTy).Contents (Elt F) → (⟨S512x1, .i32⟩ : BufTy).Contents (Elt F) → (⟨S512x2, .i32⟩ : BufTy).Contents (Elt F)),
    unary main_call5_v12 main_call5_v14 ((broadcastInDim S512x2 ![0] bcast_S512_S512x2_0) : (⟨S512, .i1⟩ : BufTy).Contents (Elt F) → (⟨S512x2, .i1⟩ : BufTy).Contents (Elt F)),
    nullary main_call5_c_4 ((constantI S_ 32 2147483648#32) : (⟨S_, .i32⟩ : BufTy).Contents (Elt F)),
    unary main_call5_c_4 main_call5_v15 ((broadcastInDim S512x2 ![] bcast_S_S512x2) : (⟨S_, .i32⟩ : BufTy).Contents (Elt F) → (⟨S512x2, .i32⟩ : BufTy).Contents (Elt F)),
    ternary main_call5_v14 main_call5_v13 main_call5_v15 main_v33 (select : (⟨S512x2, .i1⟩ : BufTy).Contents (Elt F) → (⟨S512x2, .i32⟩ : BufTy).Contents (Elt F) → (⟨S512x2, .i32⟩ : BufTy).Contents (Elt F) → (⟨S512x2, .i32⟩ : BufTy).Contents (Elt F)) ]

theorem sub5 : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Part 6 of @main's operations, in order. -/
abbrev ops6 : List (HloOp τ sig (Elt F)) :=
  [ binary main_v33 main_arg2 main_v34 (subi : (⟨S512x2, .i32⟩ : BufTy).Contents (Elt F) → (⟨S512x2, .i32⟩ : BufTy).Contents (Elt F) → (⟨S512x2, .i32⟩ : BufTy).Contents (Elt F)),
    unary main_v34 main_v35 (sitofp .f32 : (⟨S512x2, .i32⟩ : BufTy).Contents (Elt F) → (⟨S512x2, .f32⟩ : BufTy).Contents (Elt F)),
    binary main_v35 main_v35 main_v36 (mulf : (⟨S512x2, .f32⟩ : BufTy).Contents (Elt F) → (⟨S512x2, .f32⟩ : BufTy).Contents (Elt F) → (⟨S512x2, .f32⟩ : BufTy).Contents (Elt F)),
    nullary main_cst_10 (constant S_ .f32 0x00000000#32),
    binary main_v36 main_cst_10 main_v37 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    unary main_v37 main_v38 (Host.sqrt : (⟨S512, .f32⟩ : BufTy).Contents (Elt F) → (⟨S512, .f32⟩ : BufTy).Contents (Elt F)) ]

theorem sub6 : (ops6 : List (HloOp τ sig (Elt F))).Forall fun op => op.bufs ⊆ tcRefs τ sig :=
  ⟨binary_bufs_sub .., unary_bufs_sub .., binary_bufs_sub .., nullary_bufs_sub .., binary_bufs_sub .., unary_bufs_sub ..⟩

/-- All the operations of @main. -/
abbrev ops : List (HloOp τ sig (Elt F)) :=
  ops0 ++ (ops1 ++ (ops2 ++ (ops3 ++ (ops4 ++ (ops5 ++ ops6)))))

theorem main_eq (c : Dev nD) : main (F := F) c = seq ops := rfl

theorem simsOf_eq (V : Valuation τ sig (Elt F)) :
    after ops0 V (main_v6 : DevRef τ sig) = simsOf (V (main_arg0 : DevRef τ sig)) (V (main_arg1 : DevRef τ sig)) := by
  after_results
  rfl

theorem argmaxOf_eq (V : Valuation τ sig (Elt F)) :
    after ops0 V (main_v7 : DevRef τ sig) = argmaxOf (after ops0 V (main_v6 : DevRef τ sig)) := by
  after_results
  rfl

theorem maxOf_eq (V : Valuation τ sig (Elt F)) :
    after ops0 V (main_v8 : DevRef τ sig) = maxOf (after ops0 V (main_v6 : DevRef τ sig)) := by
  after_results
  rfl

theorem takePt1_eq (V : Valuation τ sig (Elt F)) :
    after ops1 V (main_v9 : DevRef τ sig) = takePt1 (V (main_arg3 : DevRef τ sig)) (V (main_v7 : DevRef τ sig)) := by
  after_results
  rfl

theorem ratioOf_eq (V : Valuation τ sig (Elt F)) :
    after ops2 V (main_v23 : DevRef τ sig) = ratioOf (V (main_v6 : DevRef τ sig)) (V (main_v8 : DevRef τ sig)) (V (main_arg3 : DevRef τ sig)) (V (main_v9 : DevRef τ sig)) := by
  after_results
  rfl

theorem takeFt1_eq (V : Valuation τ sig (Elt F)) :
    after ops3 V (main_v24 : DevRef τ sig) = takeFt1 (V (main_arg1 : DevRef τ sig)) (V (main_v7 : DevRef τ sig)) := by
  after_results
  rfl

theorem simsCyc_eq (V : Valuation τ sig (Elt F)) :
    after ops4 V (main_v31 : DevRef τ sig) = simsCyc (V (main_v24 : DevRef τ sig)) (V (main_arg0 : DevRef τ sig)) := by
  after_results
  rfl

theorem argmaxCyc_eq (V : Valuation τ sig (Elt F)) :
    after ops4 V (main_v32 : DevRef τ sig) = argmaxCyc (after ops4 V (main_v31 : DevRef τ sig)) := by
  after_results
  rfl

theorem takePt0_eq (V : Valuation τ sig (Elt F)) :
    after ops5 V (main_v33 : DevRef τ sig) = takePt0 (V (main_arg2 : DevRef τ sig)) (V (main_v32 : DevRef τ sig)) := by
  after_results
  rfl

theorem distOf_eq (V : Valuation τ sig (Elt F)) :
    after ops6 V (main_v38 : DevRef τ sig) = distOf (V (main_v33 : DevRef τ sig)) (V (main_arg2 : DevRef τ sig)) := by
  after_results
  rfl

theorem keep0 (V : Valuation τ sig (Elt F)) :
    after ops0 V (main_arg0 : DevRef τ sig) = V (main_arg0 : DevRef τ sig)
    ∧ after ops0 V (main_arg1 : DevRef τ sig) = V (main_arg1 : DevRef τ sig)
    ∧ after ops0 V (main_arg2 : DevRef τ sig) = V (main_arg2 : DevRef τ sig)
    ∧ after ops0 V (main_arg3 : DevRef τ sig) = V (main_arg3 : DevRef τ sig) := by
  refine ⟨?_, ?_, ?_, ?_⟩ <;> after_results

theorem keep1 (V : Valuation τ sig (Elt F)) :
    after ops1 V (main_arg0 : DevRef τ sig) = V (main_arg0 : DevRef τ sig)
    ∧ after ops1 V (main_arg1 : DevRef τ sig) = V (main_arg1 : DevRef τ sig)
    ∧ after ops1 V (main_arg2 : DevRef τ sig) = V (main_arg2 : DevRef τ sig)
    ∧ after ops1 V (main_arg3 : DevRef τ sig) = V (main_arg3 : DevRef τ sig)
    ∧ after ops1 V (main_v6 : DevRef τ sig) = V (main_v6 : DevRef τ sig)
    ∧ after ops1 V (main_v7 : DevRef τ sig) = V (main_v7 : DevRef τ sig)
    ∧ after ops1 V (main_v8 : DevRef τ sig) = V (main_v8 : DevRef τ sig) := by
  refine ⟨?_, ?_, ?_, ?_, ?_, ?_, ?_⟩ <;> after_results

theorem keep2 (V : Valuation τ sig (Elt F)) :
    after ops2 V (main_arg0 : DevRef τ sig) = V (main_arg0 : DevRef τ sig)
    ∧ after ops2 V (main_arg1 : DevRef τ sig) = V (main_arg1 : DevRef τ sig)
    ∧ after ops2 V (main_arg2 : DevRef τ sig) = V (main_arg2 : DevRef τ sig)
    ∧ after ops2 V (main_arg3 : DevRef τ sig) = V (main_arg3 : DevRef τ sig)
    ∧ after ops2 V (main_v7 : DevRef τ sig) = V (main_v7 : DevRef τ sig)
    ∧ after ops2 V (main_v8 : DevRef τ sig) = V (main_v8 : DevRef τ sig) := by
  refine ⟨?_, ?_, ?_, ?_, ?_, ?_⟩ <;> after_results

theorem keep3 (V : Valuation τ sig (Elt F)) :
    after ops3 V (main_arg0 : DevRef τ sig) = V (main_arg0 : DevRef τ sig)
    ∧ after ops3 V (main_arg1 : DevRef τ sig) = V (main_arg1 : DevRef τ sig)
    ∧ after ops3 V (main_arg2 : DevRef τ sig) = V (main_arg2 : DevRef τ sig)
    ∧ after ops3 V (main_arg3 : DevRef τ sig) = V (main_arg3 : DevRef τ sig)
    ∧ after ops3 V (main_v7 : DevRef τ sig) = V (main_v7 : DevRef τ sig)
    ∧ after ops3 V (main_v8 : DevRef τ sig) = V (main_v8 : DevRef τ sig)
    ∧ after ops3 V (main_v23 : DevRef τ sig) = V (main_v23 : DevRef τ sig) := by
  refine ⟨?_, ?_, ?_, ?_, ?_, ?_, ?_⟩ <;> after_results

theorem keep4 (V : Valuation τ sig (Elt F)) :
    after ops4 V (main_arg0 : DevRef τ sig) = V (main_arg0 : DevRef τ sig)
    ∧ after ops4 V (main_arg1 : DevRef τ sig) = V (main_arg1 : DevRef τ sig)
    ∧ after ops4 V (main_arg2 : DevRef τ sig) = V (main_arg2 : DevRef τ sig)
    ∧ after ops4 V (main_arg3 : DevRef τ sig) = V (main_arg3 : DevRef τ sig)
    ∧ after ops4 V (main_v7 : DevRef τ sig) = V (main_v7 : DevRef τ sig)
    ∧ after ops4 V (main_v8 : DevRef τ sig) = V (main_v8 : DevRef τ sig)
    ∧ after ops4 V (main_v23 : DevRef τ sig) = V (main_v23 : DevRef τ sig) := by
  refine ⟨?_, ?_, ?_, ?_, ?_, ?_, ?_⟩ <;> after_results

theorem keep5 (V : Valuation τ sig (Elt F)) :
    after ops5 V (main_arg0 : DevRef τ sig) = V (main_arg0 : DevRef τ sig)
    ∧ after ops5 V (main_arg1 : DevRef τ sig) = V (main_arg1 : DevRef τ sig)
    ∧ after ops5 V (main_arg2 : DevRef τ sig) = V (main_arg2 : DevRef τ sig)
    ∧ after ops5 V (main_arg3 : DevRef τ sig) = V (main_arg3 : DevRef τ sig)
    ∧ after ops5 V (main_v7 : DevRef τ sig) = V (main_v7 : DevRef τ sig)
    ∧ after ops5 V (main_v8 : DevRef τ sig) = V (main_v8 : DevRef τ sig)
    ∧ after ops5 V (main_v23 : DevRef τ sig) = V (main_v23 : DevRef τ sig) := by
  refine ⟨?_, ?_, ?_, ?_, ?_, ?_, ?_⟩ <;> after_results

theorem keep6 (V : Valuation τ sig (Elt F)) :
    after ops6 V (main_arg0 : DevRef τ sig) = V (main_arg0 : DevRef τ sig)
    ∧ after ops6 V (main_arg1 : DevRef τ sig) = V (main_arg1 : DevRef τ sig)
    ∧ after ops6 V (main_arg2 : DevRef τ sig) = V (main_arg2 : DevRef τ sig)
    ∧ after ops6 V (main_arg3 : DevRef τ sig) = V (main_arg3 : DevRef τ sig)
    ∧ after ops6 V (main_v7 : DevRef τ sig) = V (main_v7 : DevRef τ sig)
    ∧ after ops6 V (main_v8 : DevRef τ sig) = V (main_v8 : DevRef τ sig)
    ∧ after ops6 V (main_v23 : DevRef τ sig) = V (main_v23 : DevRef τ sig) := by
  refine ⟨?_, ?_, ?_, ?_, ?_, ?_, ?_⟩ <;> after_results

theorem fresh0 : ∀ op ∈ (ops0 : List (HloOp τ sig (Elt F))), op.fresh = ∅ := by
  intro _ h
  repeat (cases h with | head => rfl | tail _ h => ?_)
  exact nomatch h

theorem fresh1 : ∀ op ∈ (ops1 : List (HloOp τ sig (Elt F))), op.fresh = ∅ := by
  intro _ h
  repeat (cases h with | head => rfl | tail _ h => ?_)
  exact nomatch h

theorem fresh2 : ∀ op ∈ (ops2 : List (HloOp τ sig (Elt F))), op.fresh = ∅ := by
  intro _ h
  repeat (cases h with | head => rfl | tail _ h => ?_)
  exact nomatch h

theorem fresh3 : ∀ op ∈ (ops3 : List (HloOp τ sig (Elt F))), op.fresh = ∅ := by
  intro _ h
  repeat (cases h with | head => rfl | tail _ h => ?_)
  exact nomatch h

theorem fresh4 : ∀ op ∈ (ops4 : List (HloOp τ sig (Elt F))), op.fresh = ∅ := by
  intro _ h
  repeat (cases h with | head => rfl | tail _ h => ?_)
  exact nomatch h

theorem fresh5 : ∀ op ∈ (ops5 : List (HloOp τ sig (Elt F))), op.fresh = ∅ := by
  intro _ h
  repeat (cases h with | head => rfl | tail _ h => ?_)
  exact nomatch h

theorem fresh6 : ∀ op ∈ (ops6 : List (HloOp τ sig (Elt F))), op.fresh = ∅ := by
  intro _ h
  repeat (cases h with | head => rfl | tail _ h => ?_)
  exact nomatch h

theorem ops_fresh (d : Dev nD) : ∀ op ∈ (ops : List (HloOp τ sig (Elt F))), op.fresh = ∅ := by
  intro op h
  simp only [ops, List.mem_append] at h
  rcases h with h | h | h | h | h | h | h
  · exact fresh0 op h
  · exact fresh1 op h
  · exact fresh2 op h
  · exact fresh3 op h
  · exact fresh4 op h
  · exact fresh5 op h
  · exact fresh6 op h

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  simp only [ops, List.mem_append] at h
  rcases h with h | h | h | h | h | h | h
  · exact List.forall_iff_forall_mem.mp sub0 op h
  · exact List.forall_iff_forall_mem.mp sub1 op h
  · exact List.forall_iff_forall_mem.mp sub2 op h
  · exact List.forall_iff_forall_mem.mp sub3 op h
  · exact List.forall_iff_forall_mem.mp sub4 op h
  · exact List.forall_iff_forall_mem.mp sub5 op h
  · exact List.forall_iff_forall_mem.mp sub6 op h

/-- Operations one after the other: first one list, then the other. -/
theorem after_both (l₁ l₂ : List (HloOp τ sig (Elt F))) (V : Valuation τ sig (Elt F)) :
    after (l₁ ++ l₂) V = after l₂ (after l₁ V) := by
  induction l₁ generalizing V with
  | nil => rfl
  | cons a l ih => exact ih _

/-- The index matched to each row. -/
def ixsOf (x0 : (⟨S512x32x16x16, .f32⟩ : BufTy).Contents (Elt F)) (x1 : (⟨S4096x32x16x16, .f32⟩ : BufTy).Contents (Elt F)) :
    (⟨S512, .i32⟩ : BufTy).Contents (Elt F) := argmaxOf (simsOf x0 x1)

/-- The first result: each row's maximum. -/
def res0 (x0 : (⟨S512x32x16x16, .f32⟩ : BufTy).Contents (Elt F)) (x1 : (⟨S4096x32x16x16, .f32⟩ : BufTy).Contents (Elt F)) :
    (⟨S512, .f32⟩ : BufTy).Contents (Elt F) := maxOf (simsOf x0 x1)

/-- The second result: the ratio. -/
def res1 (x0 : (⟨S512x32x16x16, .f32⟩ : BufTy).Contents (Elt F)) (x1 : (⟨S4096x32x16x16, .f32⟩ : BufTy).Contents (Elt F))
    (x3 : (⟨S4096x2, .i32⟩ : BufTy).Contents (Elt F)) : (⟨S512, .f32⟩ : BufTy).Contents (Elt F) :=
  ratioOf (simsOf x0 x1) (res0 x0 x1) x3 (takePt1 x3 (ixsOf x0 x1))

/-- The third result: the distance of each point from the one its match leads back to. -/
def res2 (x0 : (⟨S512x32x16x16, .f32⟩ : BufTy).Contents (Elt F)) (x1 : (⟨S4096x32x16x16, .f32⟩ : BufTy).Contents (Elt F))
    (x2 : (⟨S512x2, .i32⟩ : BufTy).Contents (Elt F)) : (⟨S512, .f32⟩ : BufTy).Contents (Elt F) :=
  distOf (takePt0 x2 (argmaxCyc (simsCyc (takeFt1 x1 (ixsOf x0 x1)) x0))) x2

/-- The operations of @main leave the four results at these values and the arguments as they were. -/
theorem after_ops (V : Valuation τ sig (Elt F)) :
    after ops V (main_v8 : DevRef τ sig) = res0 (V (main_arg0 : DevRef τ sig)) (V (main_arg1 : DevRef τ sig))
    ∧ after ops V (main_v23 : DevRef τ sig) = res1 (V (main_arg0 : DevRef τ sig)) (V (main_arg1 : DevRef τ sig)) (V (main_arg3 : DevRef τ sig))
    ∧ after ops V (main_v38 : DevRef τ sig) = res2 (V (main_arg0 : DevRef τ sig)) (V (main_arg1 : DevRef τ sig)) (V (main_arg2 : DevRef τ sig))
    ∧ after ops V (main_v7 : DevRef τ sig) = ixsOf (V (main_arg0 : DevRef τ sig)) (V (main_arg1 : DevRef τ sig))
    ∧ after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig) := by
  simp only [after_both]
  obtain ⟨a00, a01, a02, a03⟩ := keep0 V
  have s0 := simsOf_eq V
  have m0 := maxOf_eq V
  have i0 := argmaxOf_eq V
  generalize after ops0 V = V0 at *
  obtain ⟨a10, a11, a12, a13, s1, i1, m1⟩ := keep1 V0
  have p1 := takePt1_eq V0
  generalize after ops1 V0 = V1 at *
  obtain ⟨a20, a21, a22, a23, i2, m2⟩ := keep2 V1
  have r2 := ratioOf_eq V1
  generalize after ops2 V1 = V2 at *
  obtain ⟨a30, a31, a32, a33, i3, m3, r3⟩ := keep3 V2
  have f3 := takeFt1_eq V2
  generalize after ops3 V2 = V3 at *
  obtain ⟨a40, a41, a42, a43, i4, m4, r4⟩ := keep4 V3
  have s4 := simsCyc_eq V3
  have c4 := argmaxCyc_eq V3
  generalize after ops4 V3 = V4 at *
  obtain ⟨a50, a51, a52, a53, i5, m5, r5⟩ := keep5 V4
  have p5 := takePt0_eq V4
  generalize after ops5 V4 = V5 at *
  obtain ⟨a60, a61, a62, a63, i6, m6, r6⟩ := keep6 V5
  have d6 := distOf_eq V5
  generalize after ops6 V5 = V6 at *
  refine ⟨?_, ?_, ?_, ?_, ?_, ?_, ?_, ?_⟩
  · rw [m6, m5, m4, m3, m2, m1, m0, s0]; rfl
  · rw [r6, r5, r4, r3, r2, m1, a13, p1, s1, i0, m0, s0, a03]; rfl
  · rw [d6, p5, c4, s4, f3, i2, i1, i0, s0, a52, a42, a32, a22, a12, a02, a30, a21, a20, a11, a10, a01, a00]; rfl
  · rw [i6, i5, i4, i3, i2, i1, i0, s0]; rfl
  · rw [a60, a50, a40, a30, a20, a10, a00]
  · rw [a61, a51, a41, a31, a21, a11, a01]
  · rw [a62, a52, a42, a32, a22, a12, a02]
  · rw [a63, a53, a43, a33, a23, a13, a03]

/-- From any memory whose counters are zero every execution of the reference ends, with the four results
    at these values of the arguments, the arguments as they were and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        (r.2.mem ((c.tc : Thread nD τ).loc main_v8) = res0 (m ((c.tc : Thread nD τ).loc main_arg0)) (m ((c.tc : Thread nD τ).loc main_arg1))
        ∧ r.2.mem ((c.tc : Thread nD τ).loc main_v23) = res1 (m ((c.tc : Thread nD τ).loc main_arg0)) (m ((c.tc : Thread nD τ).loc main_arg1)) (m ((c.tc : Thread nD τ).loc main_arg3))
        ∧ r.2.mem ((c.tc : Thread nD τ).loc main_v38) = res2 (m ((c.tc : Thread nD τ).loc main_arg0)) (m ((c.tc : Thread nD τ).loc main_arg1)) (m ((c.tc : Thread nD τ).loc main_arg2))
        ∧ r.2.mem ((c.tc : Thread nD τ).loc main_v7) = ixsOf (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 := by
  refine (θ_run defs _ _).mono (fun r h => ⟨fun c => ?_, sem_eq_zero_of_no_sems rfl _⟩)
    (run_seq scopedRefs_eq scopedSems_eq defs main (fun _ => ops) main_eq (fun _ => ops_sub) m ρ ops_fresh)
  obtain ⟨h0, h1, h2, h3, k0, k1, k2, k3⟩ := after_ops (launchContents m c)
  exact ⟨⟨(h c main_v8).trans h0, (h c main_v23).trans h1, (h c main_v38).trans h2, (h c main_v7).trans h3⟩,
    (h c main_arg0).trans k0, (h c main_arg1).trans k1, (h c main_arg2).trans k2, (h c main_arg3).trans k3⟩

/-- From any memory whose counters are zero every execution of the reference ends with the arguments as
    they were and every counter at zero. -/
theorem frame_all (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun _ h => ⟨fun c => (h.1 c).2, h.2⟩) (run_main m ρ)

end Cert.ReferenceIdeal.Hand

end
-- ==== Proof.Value.Math.lean ====
module

public import Idealize.ShloMosaic.Lib.Pointwise

@[expose] public section
noncomputable section
namespace Cert.Val
open Idealize.ShloMosaic

/-! ## The first place where a finite family of extended reals is greatest -/

/-- `i` is the first of the places where `f` is greatest. -/
def FirstMax {n : ℕ} (f : Fin n → EReal) (i : Fin n) : Prop :=
  (∀ k, f k ≤ f i) ∧ ∀ k, k < i → f k < f i

/-- There is at most one first place. -/
theorem FirstMax.unique {n : ℕ} {f : Fin n → EReal} {i i' : Fin n} (h : FirstMax f i) (h' : FirstMax f i') :
    i = i' := by
  rcases lt_trichotomy i i' with l | l | l
  · exact absurd (h'.2 i l) (not_lt.2 (h.1 i'))
  · exact l
  · exact absurd (h.2 i' l) (not_lt.2 (h'.1 i))

/-- A nonempty family has a first place. -/
theorem exists_firstMax {n : ℕ} (hn : 0 < n) (f : Fin n → EReal) : ∃ i, FirstMax f i := by
  haveI : Nonempty (Fin n) := ⟨⟨0, hn⟩⟩
  obtain ⟨m, hm⟩ := Finite.exists_max f
  obtain ⟨i, hi, hmin⟩ := (wellFounded_lt (α := Fin n)).has_min {i | ∀ k, f k ≤ f i} ⟨m, hm⟩
  refine ⟨i, hi, fun k hk => lt_of_le_of_ne (hi k) fun e => hmin k ?_ hk⟩
  intro x
  rw [e]
  exact hi x

/-- Folding the maximum from the least value gives the greatest member. -/
theorem fold_max_eq {n : ℕ} (f : Fin n → EReal) (i : Fin n) (h : ∀ k, f k ≤ f i) :
    Finset.univ.fold max ⊥ f = f i :=
  le_antisymm ((Finset.fold_max_le _).2 ⟨bot_le, fun k _ => h k⟩)
    ((Finset.le_fold_max _).2 (Or.inr ⟨i, Finset.mem_univ i, le_rfl⟩))

/-- A first place of a monotone image of a family, the map increasing. -/
theorem FirstMax.congr {n : ℕ} {f g : Fin n → EReal} {i : Fin n} (h : FirstMax f i) (e : ∀ k, g k = f k) :
    FirstMax g i := by
  have : g = f := funext e
  rw [this]
  exact h

/-! ## The least of finitely many small words -/

/-- The signed minimum of two small words is the word of the minimum. -/
theorem minsi_ofNat (a b : ℕ) (ha : a < 2 ^ 31) (hb : b < 2 ^ 31) :
    IntOp.minsi (BitVec.ofNat 32 a) (BitVec.ofNat 32 b) = BitVec.ofNat 32 (min a b) := by
  have h : ∀ x : ℕ, x < 2 ^ 31 → (BitVec.ofNat 32 x).toInt = (x : ℤ) := fun x hx => by
    rw [BitVec.toInt_ofNat', Int.bmod_def]; omega
  unfold IntOp.minsi
  simp only [BitVec.slt, h a ha, h b hb, decide_eq_true_eq]
  split_ifs with c
  · congr 1; omega
  · congr 1; omega

/-- The fold of the signed minimum over words of small numbers is the word of the least number. -/
theorem fold_minsi {n : ℕ} (g : Fin n → ℕ) (i : Fin n) (hg : ∀ k, g i ≤ g k) (hb : ∀ k, g k < 2 ^ 31) :
    Finset.univ.fold IntOp.minsi 2147483647#32 (fun k => BitVec.ofNat 32 (g k)) = BitVec.ofNat 32 (g i) := by
  have key : ∀ s : Finset (Fin n), s.fold IntOp.minsi 2147483647#32 (fun k => BitVec.ofNat 32 (g k))
      = BitVec.ofNat 32 (s.fold min 2147483647 g) ∧ s.fold min 2147483647 g < 2 ^ 31 := by
    intro s
    induction s using Finset.induction_on with
    | empty => exact ⟨rfl, by simp⟩
    | insert a s ha ih =>
      rw [Finset.fold_insert ha, Finset.fold_insert ha, ih.1, minsi_ofNat _ _ (hb a) ih.2]
      exact ⟨rfl, lt_of_le_of_lt (min_le_left _ _) (hb a)⟩
  rw [(key Finset.univ).1]
  congr 1
  refine le_antisymm ((Finset.fold_min_le _).2 (Or.inr ⟨i, Finset.mem_univ i, le_rfl⟩))
    ((Finset.le_fold_min _).2 ⟨?_, fun k _ => hg k⟩)
  have := hb i
  omega

/-- The least index at which a family attains its greatest value, other indices standing as a large number. -/
theorem fold_first {n : ℕ} (f : Fin n → EReal) (i : Fin n) (h : FirstMax f i) (C : ℕ) (hn : n ≤ C) (hC : C < 2 ^ 31) :
    Finset.univ.fold IntOp.minsi 2147483647#32 (fun k => if f k = f i then BitVec.ofNat 32 k.val else BitVec.ofNat 32 C)
      = BitVec.ofNat 32 i.val := by
  have e := fold_minsi (fun k : Fin n => if f k = f i then k.val else C) i
    (fun k => by
      rw [if_pos rfl]
      split_ifs with c
      · by_contra hk
        exact absurd c (ne_of_lt (h.2 k (by omega)))
      · have := i.isLt; omega)
    (fun k => by
      have := k.isLt
      split_ifs <;> omega)
  rw [if_pos rfl] at e
  rw [← e]
  congr 1
  funext k
  split_ifs <;> rfl

/-- The number found at one index, other indices standing as a large number. -/
theorem fold_pick {n : ℕ} (g : Fin n → ℕ) (i : Fin n) (C : ℕ) (hg : g i ≤ C) (hC : C < 2 ^ 31) :
    Finset.univ.fold IntOp.minsi 2147483647#32 (fun k => if k = i then BitVec.ofNat 32 (g k) else BitVec.ofNat 32 C)
      = BitVec.ofNat 32 (g i) := by
  have e := fold_minsi (fun k : Fin n => if k = i then g k else C) i
    (fun k => by
      rw [if_pos rfl]
      split_ifs with c
      · rw [c]
      · exact hg)
    (fun k => by
      split_ifs with c
      · rw [c]; omega
      · omega)
  rw [if_pos rfl] at e
  rw [← e]
  congr 1
  funext k
  split_ifs <;> rfl

/-- The value found at one index, other indices standing as a value not above it. -/
theorem fold_max_pick {n : ℕ} (g : Fin n → EReal) (i : Fin n) (c : EReal) (hg : c ≤ g i) :
    Finset.univ.fold max ⊥ (fun k => if k = i then g k else c) = g i := by
  have e := fold_max_eq (fun k => if k = i then g k else c) i (fun k => by
    rw [if_pos rfl]
    split_ifs with h
    · rw [h]
    · exact hg)
  rw [e, if_pos rfl]

/-! ## Words and numbers -/

/-- A small number read back from its word. -/
theorem toInt_ofNat_small (n : ℕ) (h : n < 2 ^ 31) : (BitVec.ofNat 32 n).toInt = (n : ℤ) := by
  rw [BitVec.toInt_ofNat', Int.bmod_def]; omega

/-- A small word equals another exactly when the numbers are equal. -/
theorem ofNat_inj_small (a b : ℕ) (ha : a < 2 ^ 31) (hb : b < 2 ^ 31) :
    BitVec.ofNat 32 a = BitVec.ofNat 32 b ↔ a = b := by
  constructor
  · intro h
    have h2 := congrArg BitVec.toInt h
    rw [toInt_ofNat_small a ha, toInt_ofNat_small b hb] at h2
    exact_mod_cast h2
  · rintro rfl; rfl

/-- Selecting on the comparison of two small words is a choice on the numbers' equality. -/
theorem select_cmpi_eq {α : Type} {n : ℕ} (x i : Fin n) (hn : n ≤ 2 ^ 31) (a b : α) :
    Scalar.select (IntOp.cmpi .eq (BitVec.ofNat 32 x.val) (BitVec.ofNat 32 i.val)) a b = if x = i then a else b := by
  have hx := x.isLt
  have hi := i.isLt
  by_cases h : x = i
  · subst h
    simp [Scalar.select, IntOp.cmpi]
  · have h' : ¬ BitVec.ofNat 32 x.val = BitVec.ofNat 32 i.val := fun e =>
      h (Fin.ext ((ofNat_inj_small _ _ (by omega) (by omega)).1 e))
    rw [if_neg h]
    have hb : (BitVec.ofNat 32 x.val == BitVec.ofNat 32 i.val) = false := beq_eq_false_iff_ne.2 h'
    simp only [Scalar.select, IntOp.cmpi, hb]
    rfl

/-- A small number as a word, cast to a float and back. -/
theorem fptosi_sitofp (n : ℕ) (h : n < 2 ^ 31) :
    Ideal.fptosi 32 (((BitVec.ofNat 32 n).toInt : ℝ) : EReal) = BitVec.ofNat 32 n := by
  rw [toInt_ofNat_small n h, Ideal.fptosi, Ideal.toIntClamped_coe]
  have h0 : (0 : ℝ) ≤ (((n : ℤ)) : ℝ) := by positivity
  rw [if_pos h0, Int.floor_intCast]
  have : max (-(2 ^ (32 - 1) : ℕ) : ℤ) (min (((2 ^ (32 - 1) : ℕ) : ℤ) - 1) (n : ℤ)) = (n : ℤ) := by
    norm_num
    omega
  rw [this]
  exact BitVec.ofInt_natCast ..

/-- The float of a difference of two words that are not negative is the difference of the floats. -/
theorem sitofp_subi (a b : BitVec 32) (ha : 0 ≤ a.toInt) (hb : 0 ≤ b.toInt) :
    (((IntOp.subi a b).toInt : ℝ) : EReal) = ((a.toInt : ℝ) : EReal) - ((b.toInt : ℝ) : EReal) := by
  have e : (IntOp.subi a b).toInt = a.toInt - b.toInt := by
    have h1 := BitVec.toInt_lt (x := a)
    have h2 := BitVec.toInt_lt (x := b)
    unfold IntOp.subi
    rw [BitVec.toInt_sub, Int.bmod_def]
    norm_num at h1 h2 ⊢
    omega
  rw [e, ← EReal.coe_sub]
  push_cast
  rfl

/-! ## The constants of the two programs -/

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

theorem ofBits_neg_one : Ideal.ofBits .f32 0xBF800000#32 = ((-1 : ℝ) : EReal) := by
  simp only [Ideal.ofBits, Ideal.ieee]
  rw [if_neg (by decide), if_neg (by decide)]
  congr 1
  simp
  try norm_num

theorem ofBits_scale : Ideal.ofBits .f32 0x3B000000#32 = ((1 / 512 : ℝ) : EReal) := by
  simp only [Ideal.ofBits, Ideal.ieee]
  rw [if_neg (by decide), if_neg (by decide)]
  congr 1
  simp
  try norm_num

theorem ofBits_256 : Ideal.ofBits .f32 0x43800000#32 = ((256 : ℝ) : EReal) := by
  simp only [Ideal.ofBits, Ideal.ieee]
  rw [if_neg (by decide), if_neg (by decide)]
  congr 1
  simp
  try norm_num

theorem ofBits_2 : Ideal.ofBits .f32 0x40000000#32 = ((2 : ℝ) : EReal) := by
  simp only [Ideal.ofBits, Ideal.ieee]
  rw [if_neg (by decide), if_neg (by decide)]
  congr 1
  simp
  try norm_num

theorem ofBits_half : Ideal.ofBits .f32 0x3F000000#32 = ((1 / 2 : ℝ) : EReal) := by
  simp only [Ideal.ofBits, Ideal.ieee]
  rw [if_neg (by decide), if_neg (by decide)]
  congr 1
  simp
  try norm_num

/-- Dividing by 256 and by 2 is multiplying with the one scale. -/
theorem div_div_scale (x : EReal) :
    Ideal.div (Ideal.div x (Ideal.ofBits .f32 0x43800000#32)) (Ideal.ofBits .f32 0x40000000#32)
      = x * Ideal.ofBits .f32 0x3B000000#32 := by
  rw [ofBits_256, ofBits_2, ofBits_scale, Ideal.div_coe (by norm_num), Ideal.div_coe (by norm_num), mul_assoc,
    ← EReal.coe_mul]
  norm_num

/-! ## The fold a host arg-max is -/

/-- One step of the arg-max: the greater value, the smaller index at equal values. -/
def argStep (a b : EReal × BitVec 32) : EReal × BitVec 32 :=
  (if b.1 < a.1 then a.1 else b.1, if b.1 < a.1 ∨ (a.1 = b.1 ∧ a.2.slt b.2 = true) then a.2 else b.2)

/-- Folding over a strictly increasing list of places: the fold stands at the first greatest of them, or at its
    start where all are least. -/
theorem foldl_argStep {n : ℕ} (hn : n ≤ 2 ^ 31) (f : Fin n → EReal) (l : List (Fin n)) (hl : l.Pairwise (· < ·)) :
    (∀ k ∈ l, f k ≤ ((l.map fun k => (f k, BitVec.ofNat 32 k.val)).foldl argStep (⊥, 0#32)).1) ∧
    (((l.map fun k => (f k, BitVec.ofNat 32 k.val)).foldl argStep (⊥, 0#32) = (⊥, 0#32)) ∨
      ∃ i ∈ l, (l.map fun k => (f k, BitVec.ofNat 32 k.val)).foldl argStep (⊥, 0#32) = (f i, BitVec.ofNat 32 i.val) ∧
        ∀ k ∈ l, k < i → f k < f i) := by
  induction l using List.reverseRecOn with
  | nil => exact ⟨fun k hk => absurd hk (List.not_mem_nil), Or.inl rfl⟩
  | append_singleton l b ih =>
    rw [List.pairwise_append] at hl
    obtain ⟨hl1, -, hl2⟩ := hl
    have hlt : ∀ k ∈ l, k < b := fun k hk => hl2 k hk b (List.mem_singleton.2 rfl)
    obtain ⟨i1, i2⟩ := ih hl1
    rw [List.map_append, List.foldl_append]
    generalize (l.map fun k => (f k, BitVec.ofNat 32 k.val)).foldl argStep (⊥, 0#32) = acc at i1 i2
    simp only [List.map_cons, List.map_nil, List.foldl_cons, List.foldl_nil]
    have hb := b.isLt
    by_cases c : f b < acc.1
    · have e : argStep acc (f b, BitVec.ofNat 32 b.val) = acc := by simp [argStep, c]
      rw [e]
      refine ⟨fun k hk => ?_, ?_⟩
      · rcases List.mem_append.1 hk with hk | hk
        · exact i1 k hk
        · rw [List.mem_singleton.1 hk]; exact c.le
      · rcases i2 with i2 | ⟨i, hi, i2, i3⟩
        · rw [i2] at c; exact absurd c not_lt_bot
        · refine Or.inr ⟨i, List.mem_append_left _ hi, i2, fun k hk hki => ?_⟩
          rcases List.mem_append.1 hk with hk | hk
          · exact i3 k hk hki
          · rw [List.mem_singleton.1 hk] at hki
            exact absurd hki (not_lt.2 (hlt i hi).le)
    · have e1 : (argStep acc (f b, BitVec.ofNat 32 b.val)).1 = f b := by simp [argStep, c]
      refine ⟨fun k hk => ?_, ?_⟩
      · rw [e1]
        rcases List.mem_append.1 hk with hk | hk
        · exact (i1 k hk).trans (not_lt.1 c)
        · rw [List.mem_singleton.1 hk]
      · by_cases d : acc.1 = f b ∧ acc.2.slt (BitVec.ofNat 32 b.val) = true
        · have e : argStep acc (f b, BitVec.ofNat 32 b.val) = acc := by
            refine Prod.ext ?_ ?_
            · rw [e1, d.1]
            · simp [argStep, d.1, d.2]
          rw [e]
          rcases i2 with i2 | ⟨i, hi, i2, i3⟩
          · exact Or.inl i2
          · refine Or.inr ⟨i, List.mem_append_left _ hi, i2, fun k hk hki => ?_⟩
            rcases List.mem_append.1 hk with hk | hk
            · exact i3 k hk hki
            · rw [List.mem_singleton.1 hk] at hki
              exact absurd hki (not_lt.2 (hlt i hi).le)
        · have e : argStep acc (f b, BitVec.ofNat 32 b.val) = (f b, BitVec.ofNat 32 b.val) := by
            refine Prod.ext e1 ?_
            simp only [argStep]
            rw [if_neg (fun h => h.elim c d)]
          rw [e]
          refine Or.inr ⟨b, List.mem_append_right _ (List.mem_singleton.2 rfl), rfl, fun k hk hkb => ?_⟩
          rcases List.mem_append.1 hk with hk | hk
          · refine lt_of_le_of_ne ((i1 k hk).trans (not_lt.1 c)) fun ek => d ?_
            have e3 : acc.1 = f b := le_antisymm (not_lt.1 c) (ek ▸ i1 k hk)
            refine ⟨e3, ?_⟩
            rcases i2 with i2 | ⟨i, hi, i2, i3⟩
            · rw [i2]
              have : (0 : ℕ) < b.val := lt_of_le_of_lt (Nat.zero_le _) (hlt k hk)
              simp only [BitVec.slt, decide_eq_true_eq]
              rw [toInt_ofNat_small b.val (by omega)]
              simpa using this
            · rw [i2]
              have h1 : i.val < b.val := hlt i hi
              simp only [BitVec.slt, decide_eq_true_eq]
              rw [toInt_ofNat_small b.val (by omega), toInt_ofNat_small i.val (by omega)]
              exact_mod_cast h1
          · rw [List.mem_singleton.1 hk] at hkb
            exact absurd hkb (lt_irrefl _)

/-- Over a list of all places the fold's index is the word of the first greatest place. -/
theorem foldl_argStep_all {n : ℕ} (hn : n ≤ 2 ^ 31) (f : Fin n → EReal) (l : List (Fin n)) (hl : l.Pairwise (· < ·))
    (hall : ∀ k, k ∈ l) (i : Fin n) (hi : FirstMax f i) :
    ((l.map fun k => (f k, BitVec.ofNat 32 k.val)).foldl argStep (⊥, 0#32)).2 = BitVec.ofNat 32 i.val := by
  obtain ⟨h1, h2⟩ := foldl_argStep hn f l hl
  rcases h2 with h2 | ⟨j, hj, h2, h3⟩
  · rw [h2] at h1 ⊢
    have h0 : 0 < n := lt_of_le_of_lt (Nat.zero_le _) i.isLt
    have : FirstMax f ⟨0, h0⟩ := by
      refine ⟨fun k => ?_, fun k hk => absurd hk (Nat.not_lt_zero _)⟩
      exact (h1 k (hall k)).trans bot_le
    rw [hi.unique this]
  · rw [h2] at h1 ⊢
    have : FirstMax f j := ⟨fun k => h1 k (hall k), fun k hk => h3 k (hall k) hk⟩
    rw [hi.unique this]

/-! ## The four results, of similarities and points -/

/-- Two points less than 64 apart in either coordinate. -/
def Near (a b : Fin 2 → EReal) : Prop :=
  ∀ c, max (a c - b c) (-(a c - b c)) < Ideal.ofBits .f32 0x42800000#32

open Classical in
/-- The similarity at `i` over the greatest similarity away from the point at `i`. -/
def ratioSpec {n : ℕ} (S : Fin n → EReal) (X : Fin n → Fin 2 → EReal) (i : Fin n) : EReal :=
  Ideal.div (S i) (Finset.univ.fold max ⊥ fun k => if Near (X k) (X i) then 0 else S k)

/-- The distance of two points. -/
def distSpec (a b : Fin 2 → EReal) : EReal :=
  Ideal.sqrt ((a 0 - b 0) * (a 0 - b 0) + (a 1 - b 1) * (a 1 - b 1))

theorem ofBits_64_pos : (⊥ : EReal) < Ideal.ofBits .f32 0x42800000#32 := by
  simp only [Ideal.ofBits, Ideal.ieee]
  rw [if_neg (by decide), if_neg (by decide)]
  exact EReal.bot_lt_coe _

/-! ## Sums over a flattened axis -/

/-- The three coordinates of a place of the flattened axis. -/
def flatEquiv : Fin 32 × Fin 16 × Fin 16 ≃ Fin 8192 where
  toFun p := ⟨(p.1.val * 16 + p.2.1.val) * 16 + p.2.2.val, by
    have := p.1.isLt; have := p.2.1.isLt; have := p.2.2.isLt; omega⟩
  invFun d := (⟨d.val / 256, by have := d.isLt; omega⟩, ⟨d.val / 16 % 16, by omega⟩, ⟨d.val % 16, by omega⟩)
  left_inv p := by
    have h1 := p.1.isLt
    have h2 := p.2.1.isLt
    have h3 := p.2.2.isLt
    refine Prod.ext (Fin.ext ?_) (Prod.ext (Fin.ext ?_) (Fin.ext ?_))
    · show ((p.1.val * 16 + p.2.1.val) * 16 + p.2.2.val) / 256 = p.1.val
      omega
    · show ((p.1.val * 16 + p.2.1.val) * 16 + p.2.2.val) / 16 % 16 = p.2.1.val
      omega
    · show ((p.1.val * 16 + p.2.1.val) * 16 + p.2.2.val) % 16 = p.2.2.val
      omega
  right_inv d := by
    refine Fin.ext ?_
    show (d.val / 256 * 16 + d.val / 16 % 16) * 16 + d.val % 16 = d.val
    omega

/-- The sum over three coordinates is the sum over the flattened axis. -/
theorem sum_flat (f : Fin 32 → Fin 16 → Fin 16 → EReal) :
    ∑ x, ∑ y, ∑ z, f x y z
      = ∑ d : Fin 8192, f (flatEquiv.symm d).1 (flatEquiv.symm d).2.1 (flatEquiv.symm d).2.2 := by
  rw [Equiv.sum_comp flatEquiv.symm (fun p => f p.1 p.2.1 p.2.2), Fintype.sum_prod_type]
  refine Finset.sum_congr rfl fun x _ => ?_
  rw [Fintype.sum_prod_type]

/-- Slice `i` of the flattened axis. -/
def slice (i : ℕ) (x : Fin 2048) : Fin 8192 := ⟨(2048 * i + x.val) % 8192, Nat.mod_lt _ (by norm_num)⟩

/-- The sum over the flattened axis is the sum of its four slices' sums, in order. -/
theorem sum_slices (g : Fin 8192 → EReal) :
    ∑ d, g d = ∑ i ∈ Finset.range 4, ∑ x : Fin 2048, g (slice i x) := by
  have e := Fin.sum_univ_add (a := 2048 + 2048 + 2048) (b := 2048) g
  rw [Fin.sum_univ_add (a := 2048 + 2048) (b := 2048), Fin.sum_univ_add (a := 2048) (b := 2048)] at e
  refine e.trans ?_
  rw [Finset.sum_range_succ, Finset.sum_range_succ, Finset.sum_range_succ, Finset.sum_range_one]
  refine congrArg₂ (· + ·) (congrArg₂ (· + ·) (congrArg₂ (· + ·) ?_ ?_) ?_) ?_ <;>
  · refine Finset.sum_congr rfl fun x _ => congrArg g (Fin.ext ?_)
    have := x.isLt
    simp only [slice, Fin.val_castAdd, Fin.val_natAdd]
    omega

end Cert.Val
end
-- ==== Proof.Value.Pre.lean ====
module

public import proofs.«01_k».proof.Proof.Gen.Pre_in_range
public import proofs.«01_k».proof.Proof.Value.Math
public import Idealize.ShloMosaic.Lib.ReduceAll

@[expose] public section
set_option maxRecDepth 16384
noncomputable section
namespace Cert.Pre_in_range.Hand
open Idealize.ShloMosaic
open Cert.Pre_in_range Cert.Pre_in_range.Gen Cert.Val

/-- The bit of a conjunction. -/
theorem andi_one (c d : BitVec 1) (h : IntOp.andi c d = 1#1) : c = 1#1 ∧ d = 1#1 := by
  revert h
  revert c d
  decide

/-- The bit of a comparison. -/
theorem cmp_lt_one (x y : EReal) (h : Ideal.cmp .olt x y = 1#1) : x < y := by
  by_contra hc
  have : Ideal.cmp .olt x y = 0#1 := by
    simp only [Ideal.cmp, hc, decide_false]
    rfl
  rw [this] at h
  exact absurd h (by decide)

/-- Where the precondition holds every descriptor entry is finite and every coordinate at least 0. -/
theorem fn_holds (a : FVec Ideal S512x32x16x16 .f32) (b : FVec Ideal S4096x32x16x16 .f32) (y : IVec S512x2 32) (x : IVec S4096x2 32)
    (h : fn (F := Ideal) a b y x = fun _ => 1#1) :
    (∀ i, max (a i) (-(a i)) < ⊤) ∧ (∀ i, max (b i) (-(b i)) < ⊤) ∧ (∀ i, 0 ≤ (y i).toInt) ∧ ∀ i, 0 ≤ (x i).toInt := by
  have h0 := congrFun h (fun i => i.elim0)
  obtain ⟨h1, h4⟩ := andi_one _ _ h0
  obtain ⟨h1, h3⟩ := andi_one _ _ h1
  obtain ⟨h1, h2⟩ := andi_one _ _ h1
  refine ⟨fun i => ?_, fun i => ?_, fun i => ?_, fun i => ?_⟩
  · have := cmp_lt_one _ _ (Host.reduce_andi_all _ _ _ _ _ h1 i)
    rw [← ofBits_inf]
    exact this
  · have := cmp_lt_one _ _ (Host.reduce_andi_all _ _ _ _ _ h2 i)
    rw [← ofBits_inf]
    exact this
  · exact IntOp.cmpi_sge.1 (Host.reduce_andi_all _ _ _ _ _ h3 i)
  · exact IntOp.cmpi_sge.1 (Host.reduce_andi_all _ _ _ _ _ h4 i)

end Cert.Pre_in_range.Hand
end
-- ==== Proof.Value.Read.lean ====
module

public import proofs.«01_k».proof.Proof.Ideal.State
public import proofs.«01_k».proof.Proof.Value.Math

@[expose] public section
set_option maxRecDepth 16384
noncomputable section
namespace Cert.KernelIdeal.Hand
open Idealize.ShloMosaic Idealize.ShloMosaic.TcCoe Idealize.ShloMosaic.Tactic
open Idealize.ShloMosaic.VecWindow
open Cert.KernelIdeal.Gen Cert.Val

/-! ## The kernel's expressions read at an index, at the extended reals -/

theorem pay1_at (a : Vec Ideal S2048x512 .f32) (b : Vec Ideal S2048x1024 .f32) (q : Fin 512) (k : Fin 1024) :
    k0_pay1 a b (ix2 q k) = ∑ x : Fin 2048, a (ix2 x q) * b (ix2 x k) := by
  pointwise [k0_pay1]

theorem pay6_at (p : FVec Ideal S512x1024 .f32) (b : Vec Ideal S512x1024 .f32) (q : Fin 512) (k : Fin 1024) :
    k0_pay6 p b (ix2 q k)
      = (b (ix2 q k) + p (ix2 q k)) * Ideal.ofBits .f32 0x3B000000#32 + Ideal.ofBits .f32 0x3F000000#32 := by
  pointwise [k0_pay6]

theorem pay7_at (p : FVec Ideal S512x1024 .f32) (b : Vec Ideal S512x1024 .f32) (q : Fin 512) (k : Fin 1024) :
    k0_pay7 p b (ix2 q k) = k0_pay6 p b (ix2 q k) := by
  pointwise [k0_pay7]

theorem pay5_at (p : FVec Ideal S512x1024 .f32) (k : Fin 1024) :
    k0_pay5 p (ix2 0 k) = Finset.fold IntOp.minsi 2147483647#32 (fun x : Fin 512 =>
      if p (ix2 x k) = Finset.fold max (Ideal.ofBits .f32 0xFF800000#32) (fun x : Fin 512 => p (ix2 x k)) Finset.univ
        then BitVec.ofNat 32 x.val else 512#32) Finset.univ := by
  pointwise [k0_pay5]

theorem pay8_at (p : FVec Ideal S512x1024 .f32) (b : Vec Ideal S512x1024 .f32) (q : Fin 512) :
    k0_pay8 p b (ix2 q 0)
      = Finset.fold max (Ideal.ofBits .f32 0xFF800000#32) (fun x : Fin 1024 => k0_pay6 p b (ix2 q x)) Finset.univ := by
  pointwise [k0_pay8]

theorem pay9_at (v : BitVec 32) (c : Vec Ideal S512x1 .f32) (q : Fin 512) :
    k0_pay9 v c (ix2 q 0) = Scalar.select (Scalar.cmpi .eq v 0#32) (Ideal.ofBits .f32 0xFF800000#32) (c (ix2 q 0)) := by
  pointwise [k0_pay9]

theorem pay11_at (v : BitVec 32) (p : FVec Ideal S512x1024 .f32) (b : Vec Ideal S512x1024 .f32) (c : Vec Ideal S512x1 .f32)
    (q : Fin 512) :
    k0_pay11 v p b c (ix2 q 0)
      = if k0_pay9 v c (ix2 q 0) < k0_pay8 p b (ix2 q 0) then k0_pay8 p b (ix2 q 0) else k0_pay9 v c (ix2 q 0) := by
  pointwise [k0_pay11, k0_pay10]

theorem pay12_at (v : BitVec 32) (p : FVec Ideal S512x1024 .f32) (b : Vec Ideal S512x1024 .f32) (c d : Vec Ideal S512x1 .f32)
    (q : Fin 512) :
    k0_pay4 (k0_pay12 v p b c d) (ix2 q 0)
      = if k0_pay9 v c (ix2 q 0) < k0_pay8 p b (ix2 q 0)
        then FloatOps.sitofp .f32 (IntOp.addi (Finset.fold IntOp.minsi 2147483647#32 (fun x : Fin 1024 =>
            if k0_pay6 p b (ix2 q x) = k0_pay8 p b (ix2 q 0) then BitVec.ofNat 32 x.val else 1024#32) Finset.univ)
            (Scalar.muli v 1024#32))
        else d (ix2 q 0) := by
  pointwise [k0_pay4, k0_pay12, k0_pay10]

theorem pay16_at (a b : Vec Ideal S512x1 .f32) (q : Fin 512) :
    k0_pay16 a b (ix2 q 0) = Ideal.div (a (ix2 q 0)) (b (ix2 q 0)) := by
  pointwise [k0_pay16]

theorem pay18_at (c : Vec Ideal S512x1 .f32) (q : Fin 512) :
    k0_pay18 (F := Ideal) (k0_pay13 c) (ix2 q 0) = ((((Ideal.fptosi 32 (c (ix2 q 0))).toInt : ℝ)) : EReal) := by
  pointwise [k0_pay18, k0_pay13]
  rfl

/-- The first coordinate of the point a row's index word names, the others standing as −1. -/
def pickF {n : ℕ} (w : BitVec 32) (d : Fin n → EReal) : EReal :=
  Finset.fold max (Ideal.ofBits .f32 0xFF800000#32) (fun x : Fin n =>
    Scalar.select (IntOp.cmpi .eq (BitVec.ofNat 32 x.val) w) (d x) (Ideal.ofBits .f32 0xBF800000#32)) Finset.univ

theorem pay15_at (p : Vec Ideal S512x4096 .f32) (c : Vec Ideal S512x1 .f32) (d e : Vec Ideal S1x4096 .f32) (q : Fin 512) :
    k0_pay15 p c d e (ix2 q 0)
      = Finset.fold max (Ideal.ofBits .f32 0xFF800000#32) (fun x : Fin 4096 =>
        Scalar.select (IntOp.andi
            (BitVec.ofBool (decide (max (d (ix2 0 x) - pickF (Ideal.fptosi 32 (c (ix2 q 0))) fun x : Fin 4096 => d (ix2 0 x))
              (-(d (ix2 0 x) - pickF (Ideal.fptosi 32 (c (ix2 q 0))) fun x : Fin 4096 => d (ix2 0 x))) < Ideal.ofBits .f32 0x42800000#32)))
            (BitVec.ofBool (decide (max (e (ix2 0 x) - pickF (Ideal.fptosi 32 (c (ix2 q 0))) fun x : Fin 4096 => e (ix2 0 x))
              (-(e (ix2 0 x) - pickF (Ideal.fptosi 32 (c (ix2 q 0))) fun x : Fin 4096 => e (ix2 0 x))) < Ideal.ofBits .f32 0x42800000#32))))
          (0 : EReal) (p (ix2 q x))) Finset.univ := by
  pointwise [k0_pay15, k0_pay14, k0_pay13]
  rfl

theorem pay17_at (c : Vec Ideal S512x1 .f32) (b : Vec Ideal S1x4096 .i32) (d e : Vec Ideal S1x512 .f32) (q : Fin 512)
    (w : BitVec 32)
    (hw : Finset.fold IntOp.minsi 2147483647#32 (fun x : Fin 4096 =>
      Scalar.select (IntOp.cmpi .eq (BitVec.ofNat 32 x.val) (Ideal.fptosi 32 (c (ix2 q 0)))) (b (ix2 0 x)) 512#32) Finset.univ = w) :
    k0_pay17 (k0_pay14 c) b d e (ix2 q 0)
      = Ideal.sqrt (((pickF w fun x : Fin 512 => d (ix2 0 x)) - d (ix2 0 q)) * ((pickF w fun x : Fin 512 => d (ix2 0 x)) - d (ix2 0 q))
        + ((pickF w fun x : Fin 512 => e (ix2 0 x)) - e (ix2 0 q)) * ((pickF w fun x : Fin 512 => e (ix2 0 x)) - e (ix2 0 q))) := by
  subst hw
  pointwise [k0_pay17, k0_pay14, k0_pay13]
  rfl

/-- A window of a matrix read at an index. -/
theorem window_at {α : Type} {m n m' n' : ℕ} (x : (⟨2, ![m, n]⟩ : Shape).Idx → α) (a b : ℕ)
    (inb : ∀ i : Fin 2, (![a, b] : Fin 2 → ℕ) i + (![m', n'] : Fin 2 → ℕ) i ≤ (![m, n] : Fin 2 → ℕ) i) (q : Fin m') (k : Fin n')
    (r : Fin m) (s : Fin n) (hr : r.val = a + q.val) (hs : s.val = b + k.val) :
    window (s := ⟨2, ![m, n]⟩) x ![a, b] ![m', n'] inb (ix2 q k) = x (ix2 r s) := by
  unfold window
  congr 1
  funext i
  refine Fin.ext ?_
  fin_cases i
  · show a + 1 * q.val = r.val
    omega
  · show b + 1 * k.val = s.val
    omega

/-- What was put into a matrix, read inside the window. -/
theorem put_in {α : Type} {m n m' n' : ℕ} (x : (⟨2, ![m, n]⟩ : Shape).Idx → α) (a b : ℕ)
    (w : (⟨2, ![m', n']⟩ : Shape).Idx → α) (q : Fin m') (k : Fin n')
    (r : Fin m) (s : Fin n) (hr : r.val = a + q.val) (hs : s.val = b + k.val) :
    put (s := ⟨2, ![m, n]⟩) x ![a, b] ![m', n'] w (ix2 r s) = w (ix2 q k) := by
  have h : ∀ i : Fin 2, (![a, b] : Fin 2 → ℕ) i ≤ (ix2 r s i).val ∧ (ix2 r s i).val < (![a, b] : Fin 2 → ℕ) i + (![m', n'] : Fin 2 → ℕ) i := by
    intro i
    have := q.isLt
    have := k.isLt
    fin_cases i
    · show a ≤ r.val ∧ r.val < a + m'
      omega
    · show b ≤ s.val ∧ s.val < b + n'
      omega
  unfold put
  rw [dif_pos h]
  congr 1
  funext i
  refine Fin.ext ?_
  fin_cases i
  · show r.val - a = q.val
    omega
  · show s.val - b = k.val
    omega

/-- What was put into a matrix leaves the places outside the window, by their column. -/
theorem put_out {α : Type} {m n m' n' : ℕ} (x : (⟨2, ![m, n]⟩ : Shape).Idx → α) (a b : ℕ)
    (w : (⟨2, ![m', n']⟩ : Shape).Idx → α) (r : Fin m) (s : Fin n) (hs : s.val < b ∨ b + n' ≤ s.val) :
    put (s := ⟨2, ![m, n]⟩) x ![a, b] ![m', n'] w (ix2 r s) = x (ix2 r s) := by
  unfold put
  rw [dif_neg]
  intro h
  have h1 : b ≤ s.val ∧ s.val < b + n' := h 1
  omega

end Cert.KernelIdeal.Hand
end
-- ==== Proof.Value.Inv.lean ====
module

public import proofs.«01_k».proof.Proof.Value.Read

@[expose] public section
set_option maxRecDepth 16384
noncomputable section
namespace Cert.KernelIdeal.Hand
open Idealize.ShloMosaic Idealize.ShloMosaic.TcCoe Idealize.ShloMosaic.Tactic
open Idealize.ShloMosaic.VecWindow
open Cert.KernelIdeal.Gen Cert.Val

/-! ## Reading the state's pieces -/

theorem block_in (x : Vec Ideal S512x4096 .f32) (j : ℕ) (w : FVec Ideal S512x1024 .f32) (q : Fin 512) (k : Fin 1024) (s : Fin 4096)
    (hs : s.val = 1024 * j + k.val) : put x (offC j) S512x1024.size w (ix2 q s) = w (ix2 q k) :=
  put_in x 0 (1024 * j) w q k q s (by omega) hs

theorem block_out (x : Vec Ideal S512x4096 .f32) (j : ℕ) (w : FVec Ideal S512x1024 .f32) (q : Fin 512) (s : Fin 4096)
    (hs : s.val < 1024 * j ∨ 1024 * j + 1024 ≤ s.val) : put x (offC j) S512x1024.size w (ix2 q s) = x (ix2 q s) :=
  put_out x 0 (1024 * j) w q s hs

theorem block_win (x : Vec Ideal S512x4096 .f32) (j : ℕ) (hj : j < 4) (q : Fin 512) (k : Fin 1024) (s : Fin 4096)
    (hs : s.val = 1024 * j + k.val) : window x (offC j) S512x1024.size (inbC hj) (ix2 q k) = x (ix2 q s) :=
  window_at x 0 (1024 * j) (inbC hj) q k q s (by omega) hs

theorem best_in (x : Vec Ideal S1x4096 .i32) (j : ℕ) (w : IVec S1x1024 32) (k : Fin 1024) (s : Fin 4096)
    (hs : s.val = 1024 * j + k.val) : put x (offC j) S1x1024.size w (ix2 0 s) = w (ix2 0 k) :=
  put_in x 0 (1024 * j) w 0 k 0 s rfl hs

theorem best_out (x : Vec Ideal S1x4096 .i32) (j : ℕ) (w : IVec S1x1024 32) (s : Fin 4096)
    (hs : s.val < 1024 * j ∨ 1024 * j + 1024 ≤ s.val) : put x (offC j) S1x1024.size w (ix2 0 s) = x (ix2 0 s) :=
  put_out x 0 (1024 * j) w 0 s hs

theorem stat_win0 (x : Vec Ideal S512x2 .f32) (q : Fin 512) :
    window x ![0, 0] S512x1.size inb_S512x2_S512x1_0_0 (ix2 q 0) = x (ix2 q 0) :=
  window_at x 0 0 inb_S512x2_S512x1_0_0 q 0 q 0 (by omega) rfl

theorem stat_win1 (x : Vec Ideal S512x2 .f32) (q : Fin 512) :
    window x ![0, 1] S512x1.size inb_S512x2_S512x1_0_1 (ix2 q 0) = x (ix2 q 1) :=
  window_at x 0 1 inb_S512x2_S512x1_0_1 q 0 q 1 (by omega) rfl

theorem stat_put0 (x : Vec Ideal S512x2 .f32) (a b : FVec Ideal S512x1 .f32) (q : Fin 512) :
    put (put x ![0, 0] S512x1.size a) ![0, 1] S512x1.size b (ix2 q 0) = a (ix2 q 0) :=
  (put_out (put x ![0, 0] S512x1.size a) 0 1 b q 0 (Or.inl Nat.zero_lt_one)).trans (put_in x 0 0 a q 0 q 0 (by omega) rfl)

theorem stat_put1 (x : Vec Ideal S512x2 .f32) (b : FVec Ideal S512x1 .f32) (q : Fin 512) :
    put x ![0, 1] S512x1.size b (ix2 q 1) = b (ix2 q 0) :=
  put_in x 0 1 b q 0 q 1 (by omega) rfl

theorem cast_at (p : FVec Ideal S512x1024 .f32) (q : Fin 512) (k : Fin 1024) :
    shapeCast S512x1024 p shapeCasts_S512x1024_S512x1024 (ix2 q k) = p (ix2 q k) := by
  pointwise

/-! ## The invariant -/

variable (P : ℕ → Fin 512 → Fin 4096 → EReal)

/-- The similarity the four slices' products give. -/
def simP (q : Fin 512) (k : Fin 4096) : EReal :=
  (∑ i ∈ Finset.range 4, P i q k) * Ideal.ofBits .f32 0x3B000000#32 + Ideal.ofBits .f32 0x3F000000#32

/-- The float an index is kept as. -/
def idxF (i : ℕ) : EReal := (((BitVec.ofNat 32 i).toInt : ℝ) : EReal)

/-- Before point `n`: the finished column blocks hold the similarities, the block in work the sum of its slices so far;
    a row's running maximum and its index are the first best of the finished columns, a finished column's best row the
    first of its best rows. -/
structure Inv (n : ℕ) (s : St Ideal) : Prop where
  done : ∀ q (k : Fin 4096), k.val < 1024 * (n / 4) → s.sims (ix2 q k) = simP P q k
  work : ∀ q (k : Fin 4096), n % 4 ≠ 0 → 1024 * (n / 4) ≤ k.val → k.val < 1024 * (n / 4) + 1024 →
    s.sims (ix2 q k) = ∑ i ∈ Finset.range (n % 4), P i q k
  row : 0 < n / 4 → ∀ q, ∃ i : Fin 4096, i.val < 1024 * (n / 4) ∧ s.stat (ix2 q 0) = simP P q i ∧ s.stat (ix2 q 1) = idxF i.val ∧
    (∀ k : Fin 4096, k.val < 1024 * (n / 4) → simP P q k ≤ simP P q i) ∧ ∀ k : Fin 4096, k < i → simP P q k < simP P q i
  col : ∀ k : Fin 4096, k.val < 1024 * (n / 4) → ∃ r : Fin 512, FirstMax (fun q => simP P q k) r ∧
    s.best (ix2 0 k) = BitVec.ofNat 32 r.val

theorem inv_zero (s : St Ideal) : Inv P 0 s where
  done := fun _ k h => absurd h (Nat.not_lt_zero _)
  work := fun _ k h => absurd rfl h
  row := fun h => absurd h (lt_irrefl _)
  col := fun k h => absurd h (Nat.not_lt_zero _)

/-- Column `l` of column block `j`. -/
def colAt (j : ℕ) (hj : j < 4) (l : Fin 1024) : Fin 4096 := ⟨1024 * j + l.val, by have := l.isLt; omega⟩

/-- A column of a block is one of the block's columns. -/
theorem exists_colAt (j : ℕ) (hj : j < 4) (k : Fin 4096) (h1 : 1024 * j ≤ k.val) (h2 : k.val < 1024 * j + 1024) :
    ∃ l : Fin 1024, k = colAt j hj l :=
  ⟨⟨k.val - 1024 * j, by omega⟩, Fin.ext (by show k.val = 1024 * j + (k.val - 1024 * j); omega)⟩

theorem inv_store (n : ℕ) (hn : n < 16) (h4 : n % 4 = 0) (p : FVec Ideal S512x1024 .f32)
    (hp : ∀ q l, p (ix2 q l) = P 0 q (colAt (n / 4) (by omega) l)) (s : St Ideal) (h : Inv P n s) :
    Inv P (n + 1) (stStore (n / 4) p s) := by
  have e1 : (n + 1) / 4 = n / 4 := by omega
  have e2 : (n + 1) % 4 = 1 := by omega
  have hj : n / 4 < 4 := by omega
  refine ⟨?_, ?_, ?_, ?_⟩
  · intro q k hk
    rw [e1] at hk
    exact (block_out _ _ _ q k (Or.inl hk)).trans (h.done q k hk)
  · intro q k _ h1 h2
    rw [e1] at h1 h2
    obtain ⟨l, rfl⟩ := exists_colAt (n / 4) hj k h1 h2
    rw [e2, Finset.sum_range_one, ← hp q l, ← cast_at p q l]
    exact block_in _ _ _ q l _ rfl
  · rw [e1]; exact h.row
  · rw [e1]; exact h.col

theorem inv_accum (n : ℕ) (hn : n < 16) (h0 : n % 4 ≠ 0) (h3 : n % 4 ≠ 3) (p : FVec Ideal S512x1024 .f32)
    (hp : ∀ q l, p (ix2 q l) = P (n % 4) q (colAt (n / 4) (by omega) l)) (s : St Ideal) (h : Inv P n s) :
    Inv P (n + 1) (stAccum (n / 4) (by omega) p s) := by
  have e1 : (n + 1) / 4 = n / 4 := by omega
  have e2 : (n + 1) % 4 = n % 4 + 1 := by omega
  have hj : n / 4 < 4 := by omega
  refine ⟨?_, ?_, ?_, ?_⟩
  · intro q k hk
    rw [e1] at hk
    exact (block_out _ _ _ q k (Or.inl hk)).trans (h.done q k hk)
  · intro q k _ h1 h2
    rw [e1] at h1 h2
    have hw := h.work q k h0 h1 h2
    obtain ⟨l, rfl⟩ := exists_colAt (n / 4) hj k h1 h2
    rw [e2, Finset.sum_range_succ, ← hw, ← hp q l]
    refine (block_in _ _ _ q l _ rfl).trans ((cast_at _ q l).trans ?_)
    exact congrArg (fun v : EReal => v + p (ix2 q l)) (block_win s.sims (n / 4) hj q l _ rfl)
  · rw [e1]; exact h.row
  · rw [e1]; exact h.col

theorem inv_finish (n : ℕ) (hn : n < 16) (h3 : n % 4 = 3) (p : FVec Ideal S512x1024 .f32)
    (hp : ∀ q l, p (ix2 q l) = P 3 q (colAt (n / 4) (by omega) l)) (hfin : ∀ q k, ⊥ < simP P q k) (s : St Ideal) (h : Inv P n s) :
    Inv P (n + 1) (stFinish (n / 4) (by omega) p s) := by
  have hj : n / 4 < 4 := by omega
  have e1 : (n + 1) / 4 = n / 4 + 1 := by omega
  have e2 : (n + 1) % 4 = 0 := by omega
  have h6 : ∀ q l, k0_pay6 p (window s.sims (offC (n / 4)) S512x1024.size (inbC hj)) (ix2 q l) = simP P q (colAt (n / 4) hj l) := by
    intro q l
    refine (pay6_at p _ q l).trans ?_
    have hw := h.work q (colAt (n / 4) hj l) (by omega) (Nat.le_add_right _ _) (Nat.add_lt_add_left l.isLt _)
    rw [h3] at hw
    have hb : window s.sims (offC (n / 4)) S512x1024.size (inbC hj) (ix2 q l) = ∑ i ∈ Finset.range 3, P i q (colAt (n / 4) hj l) :=
      (block_win s.sims (n / 4) hj q l _ rfl).trans hw
    unfold simP
    rw [Finset.sum_range_succ, ← hp q l, ← hb]
  have hdone : ∀ q (k : Fin 4096), k.val < 1024 * (n / 4 + 1) →
      (stFinish (n / 4) hj p s).sims (ix2 q k) = simP P q k := by
    intro q k hk
    by_cases c : k.val < 1024 * (n / 4)
    · exact (block_out _ _ _ q k (Or.inl c)).trans (h.done q k c)
    · obtain ⟨l, rfl⟩ := exists_colAt (n / 4) hj k (by omega) (by omega)
      exact (block_in _ _ _ q l _ rfl).trans ((pay7_at p _ q l).trans (h6 q l))
  refine ⟨?_, fun _ _ c => absurd e2 c, ?_, ?_⟩
  · rw [e1]; exact hdone
  · rw [e1]
    intro _ q
    obtain ⟨l, hl⟩ := exists_firstMax (by norm_num) (fun l : Fin 1024 => simP P q (colAt (n / 4) hj l))
    have h8 : k0_pay8 p (window s.sims (offC (n / 4)) S512x1024.size (inbC hj)) (ix2 q 0) = simP P q (colAt (n / 4) hj l) := by
      rw [pay8_at, ofBits_neg_inf]
      have : (fun x : Fin 1024 => k0_pay6 p (window s.sims (offC (n / 4)) S512x1024.size (inbC hj)) (ix2 q x))
          = fun x => simP P q (colAt (n / 4) hj x) := funext fun x => h6 q x
      rw [this]
      exact fold_max_eq _ l hl.1
    have h12 : (FloatOps.sitofp (F := Ideal) .f32 (IntOp.addi (Finset.fold IntOp.minsi 2147483647#32 (fun x : Fin 1024 =>
            if k0_pay6 p (window s.sims (offC (n / 4)) S512x1024.size (inbC hj)) (ix2 q x)
              = k0_pay8 p (window s.sims (offC (n / 4)) S512x1024.size (inbC hj)) (ix2 q 0) then BitVec.ofNat 32 x.val else 1024#32) Finset.univ)
            (Scalar.muli (BitVec.ofNat 32 (n / 4)) 1024#32))) = idxF (colAt (n / 4) hj l).val := by
      rw [h8]
      have : (fun x : Fin 1024 => if k0_pay6 p (window s.sims (offC (n / 4)) S512x1024.size (inbC hj)) (ix2 q x)
              = simP P q (colAt (n / 4) hj l) then BitVec.ofNat 32 x.val else 1024#32)
          = fun x => if simP P q (colAt (n / 4) hj x) = simP P q (colAt (n / 4) hj l) then BitVec.ofNat 32 x.val else BitVec.ofNat 32 1024 :=
        funext fun x => by rw [h6 q x]
      rw [this, fold_first (fun x => simP P q (colAt (n / 4) hj x)) l hl 1024 le_rfl (by norm_num)]
      have e : IntOp.addi (BitVec.ofNat 32 l.val) (Scalar.muli (BitVec.ofNat 32 (n / 4)) 1024#32) = BitVec.ofNat 32 (colAt (n / 4) hj l).val := by
        have h1 : IntOp.addi (BitVec.ofNat 32 l.val) (Scalar.muli (BitVec.ofNat 32 (n / 4)) 1024#32)
            = BitVec.ofNat 32 l.val + BitVec.ofNat 32 (n / 4) * BitVec.ofNat 32 1024 := rfl
        rw [h1, ← BitVec.ofNat_mul, ← BitVec.ofNat_add]
        exact congrArg (BitVec.ofNat 32) (show l.val + n / 4 * 1024 = 1024 * (n / 4) + l.val by omega)
      rw [e]
      rfl
    have h9 : k0_pay9 (F := Ideal) (BitVec.ofNat 32 (n / 4)) (window s.stat ![0, 0] S512x1.size inb_S512x2_S512x1_0_0) (ix2 q 0)
        = if n / 4 = 0 then ⊥ else s.stat (ix2 q 0) := by
      rw [pay9_at, ofBits_neg_inf]
      have hc := select_cmpi_eq (n := 4) (⟨n / 4, hj⟩ : Fin 4) 0 (by norm_num) (⊥ : EReal)
        (window s.stat ![0, 0] S512x1.size inb_S512x2_S512x1_0_0 (ix2 q 0))
      refine Eq.trans hc ?_
      have hw := stat_win0 s.stat q
      by_cases c : n / 4 = 0
      · rw [if_pos c, if_pos (Fin.ext c)]
      · rw [if_neg c, if_neg (fun e => c (congrArg Fin.val e))]
        exact hw
    have hs0 : (stFinish (n / 4) hj p s).stat (ix2 q 0)
        = if (if n / 4 = 0 then ⊥ else s.stat (ix2 q 0)) < simP P q (colAt (n / 4) hj l) then simP P q (colAt (n / 4) hj l)
          else (if n / 4 = 0 then ⊥ else s.stat (ix2 q 0)) := by
      refine (stat_put0 _ _ _ q).trans ((pay11_at _ p _ _ q).trans ?_)
      rw [h9, h8]
    have hs1 : (stFinish (n / 4) hj p s).stat (ix2 q 1)
        = if (if n / 4 = 0 then ⊥ else s.stat (ix2 q 0)) < simP P q (colAt (n / 4) hj l) then idxF (colAt (n / 4) hj l).val
          else s.stat (ix2 q 1) := by
      refine (stat_put1 _ _ q).trans ((pay12_at _ p _ _ _ q).trans ?_)
      rw [h9]
      have hw := stat_win1 s.stat q
      refine if_congr (by rw [h8]) ?_ hw
      exact h12
    -- the new block's columns stay below its first best, those before it strictly
    have hblk : ∀ k : Fin 4096, 1024 * (n / 4) ≤ k.val → k.val < 1024 * (n / 4 + 1) → simP P q k ≤ simP P q (colAt (n / 4) hj l) := by
      intro k k1 k2
      obtain ⟨x, rfl⟩ := exists_colAt (n / 4) hj k k1 (by omega)
      exact hl.1 x
    have hblk' : ∀ k : Fin 4096, 1024 * (n / 4) ≤ k.val → k < colAt (n / 4) hj l → simP P q k < simP P q (colAt (n / 4) hj l) := by
      intro k k1 k2
      have k2' : k.val < 1024 * (n / 4) + l.val := k2
      have := l.isLt
      obtain ⟨x, rfl⟩ := exists_colAt (n / 4) hj k k1 (by omega)
      refine hl.2 x ?_
      have : 1024 * (n / 4) + x.val < 1024 * (n / 4) + l.val := k2'
      rw [Fin.lt_def]
      omega
    have hlv : (colAt (n / 4) hj l).val < 1024 * (n / 4 + 1) := by
      show 1024 * (n / 4) + l.val < _
      have := l.isLt
      omega
    by_cases c : n / 4 = 0
    · rw [if_pos c, if_pos (hfin _ _)] at hs0
      rw [if_pos c, if_pos (hfin _ _)] at hs1
      exact ⟨colAt (n / 4) hj l, hlv, hs0, hs1, fun k hk => hblk k (by omega) hk, fun k hk => hblk' k (by omega) hk⟩
    · obtain ⟨i, i1, i2, i3, i4, i5⟩ := h.row (by omega) q
      rw [if_neg c, i2] at hs0 hs1
      by_cases d : simP P q i < simP P q (colAt (n / 4) hj l)
      · rw [if_pos d] at hs0 hs1
        refine ⟨colAt (n / 4) hj l, hlv, hs0, hs1, fun k hk => ?_, fun k hk => ?_⟩
        · by_cases kk : k.val < 1024 * (n / 4)
          · exact (i4 k kk).trans d.le
          · exact hblk k (by omega) hk
        · by_cases kk : k.val < 1024 * (n / 4)
          · exact (i4 k kk).trans_lt d
          · exact hblk' k (by omega) hk
      · rw [if_neg d] at hs0 hs1
        refine ⟨i, by omega, hs0, hs1.trans i3, fun k hk => ?_, i5⟩
        by_cases kk : k.val < 1024 * (n / 4)
        · exact i4 k kk
        · exact (hblk k (by omega) hk).trans (not_lt.1 d)
  · rw [e1]
    intro k hk
    by_cases c : k.val < 1024 * (n / 4)
    · obtain ⟨r, r1, r2⟩ := h.col k c
      exact ⟨r, r1, (best_out _ _ _ k (Or.inl c)).trans r2⟩
    · obtain ⟨l, rfl⟩ := exists_colAt (n / 4) hj k (by omega) (by omega)
      obtain ⟨r, hr⟩ := exists_firstMax (by norm_num) (fun q : Fin 512 => simP P q (colAt (n / 4) hj l))
      refine ⟨r, hr, (best_in _ _ _ l _ rfl).trans ((pay5_at _ l).trans ?_)⟩
      have e : (fun x : Fin 512 => k0_pay6 p (window s.sims (offC (n / 4)) S512x1024.size (inbC hj)) (ix2 x l))
          = fun x => simP P x (colAt (n / 4) hj l) := funext fun x => h6 x l
      rw [e, ofBits_neg_inf, fold_max_eq _ r hr.1]
      have : (fun x : Fin 512 => if k0_pay6 p (window s.sims (offC (n / 4)) S512x1024.size (inbC hj)) (ix2 x l)
              = simP P r (colAt (n / 4) hj l) then BitVec.ofNat 32 x.val else 512#32)
          = fun x => if simP P x (colAt (n / 4) hj l) = simP P r (colAt (n / 4) hj l) then BitVec.ofNat 32 x.val else BitVec.ofNat 32 512 :=
        funext fun x => by rw [h6 x l]
      rw [this]
      exact fold_first (fun x => simP P x (colAt (n / 4) hj l)) r hr 512 le_rfl (by norm_num)

/-- Every point keeps the invariant. -/
theorem inv_step (n : ℕ) (x0 : Vec Ideal S8192x512 .f32) (x1 : Vec Ideal S2048x1024 .f32)
    (hp : ∀ (hn : n < 16) q l, part (n % 4) (mod_lt n) x0 x1 (ix2 q l) = P (n % 4) q (colAt (n / 4) (by omega) l))
    (hfin : ∀ q k, ⊥ < simP P q k) (hn : n < 16) (s : St Ideal) (h : Inv P n s) : Inv P (n + 1) (step n x0 x1 s) := by
  have hp' := hp hn
  unfold step
  rw [dif_pos hn]
  by_cases h0 : n % 4 = 0
  · rw [if_pos h0]
    refine inv_store P n hn h0 _ (fun q l => (hp' q l).trans ?_) s h
    rw [h0]
  · rw [if_neg h0]
    by_cases h3 : n % 4 = 3
    · rw [if_pos h3]
      refine inv_finish P n hn h3 _ (fun q l => (hp' q l).trans ?_) hfin s h
      rw [h3]
    · rw [if_neg h3]
      exact inv_accum P n hn h0 h3 _ hp' s h

end Cert.KernelIdeal.Hand
end
-- ==== Proof.Value.Blocks.lean ====
module

public import proofs.«01_k».proof.Proof.Value.Inv
public import proofs.«01_k».proof.Proof.Gen.KernelIdeal.Frame
public import Idealize.ShloMosaic.Lib.Pointwise

@[expose] public section
set_option maxRecDepth 16384
noncomputable section
namespace Cert.KernelIdeal.Hand
open Idealize.ShloMosaic Idealize.ShloMosaic.TcCoe Idealize.ShloMosaic.Tactic
open Idealize.SL Idealize.SL.Sem
open Idealize.ShloMosaic.StableHlo
open Cert.KernelIdeal.Gen Cert.Val

variable (m : (ℓ : Loc nD τ sig) → Buf (Elt Ideal) ℓ)

/-! ## What the host hands to the launch -/

/-- Descriptors flattened and turned, at a flattened place and a descriptor. -/
theorem flat0_at (a : FVec Ideal S512x32x16x16 .f32) (d : Fin 8192) (q : Fin 512) :
    shapeCast S8192x512 (transpose S32x16x16x512 [1, 2, 3, 0] a transposes_S512x32x16x16_S32x16x16x512_1_2_3_0) shapeCasts_S32x16x16x512_S8192x512 (ix2 d q)
      = a (ix4 q (flatEquiv.symm d).1 (flatEquiv.symm d).2.1 (flatEquiv.symm d).2.2) := by
  pointwise
  rfl

theorem flat1_at (a : FVec Ideal S4096x32x16x16 .f32) (d : Fin 8192) (k : Fin 4096) :
    shapeCast S8192x4096 (transpose S32x16x16x4096 [1, 2, 3, 0] a transposes_S4096x32x16x16_S32x16x16x4096_1_2_3_0) shapeCasts_S32x16x16x4096_S8192x4096 (ix2 d k)
      = a (ix4 k (flatEquiv.symm d).1 (flatEquiv.symm d).2.1 (flatEquiv.symm d).2.2) := by
  pointwise
  rfl

theorem turn0_at (y : IVec S512x2 32) (c : Fin 2) (q : Fin 512) :
    transpose S2x512 [1, 0] (sitofp (F := Ideal) .f32 y) transposes_S512x2_S2x512_1_0 (ix2 c q) = (((y (ix2 q c)).toInt : ℝ) : EReal) := by
  pointwise
  rfl

theorem turn1_at (y : IVec S4096x2 32) (c : Fin 2) (k : Fin 4096) :
    transpose S2x4096 [1, 0] (sitofp (F := Ideal) .f32 y) transposes_S4096x2_S2x4096_1_0 (ix2 c k) = (((y (ix2 k c)).toInt : ℝ) : EReal) := by
  pointwise
  rfl

theorem v1_eq (c : Dev nD) : V m c main_v1 = shapeCast S8192x512 (transpose S32x16x16x512 [1, 2, 3, 0] (m ((c : Thread nD τ).loc main_arg0)) transposes_S512x32x16x16_S32x16x16x512_1_2_3_0) shapeCasts_S32x16x16x512_S8192x512 := by
  show StableHlo.after hostOps0 _ _ = _
  after_results
  rfl

theorem v3_eq (c : Dev nD) : V m c main_v3 = shapeCast S8192x4096 (transpose S32x16x16x4096 [1, 2, 3, 0] (m ((c : Thread nD τ).loc main_arg1)) transposes_S4096x32x16x16_S32x16x16x4096_1_2_3_0) shapeCasts_S32x16x16x4096_S8192x4096 := by
  show StableHlo.after hostOps0 _ _ = _
  after_results
  rfl

theorem v5_eq (c : Dev nD) : V m c main_v5 = transpose S2x512 [1, 0] (sitofp (F := Ideal) .f32 (m ((c : Thread nD τ).loc main_arg2))) transposes_S512x2_S2x512_1_0 := by
  show StableHlo.after hostOps0 _ _ = _
  after_results

theorem v7_eq (c : Dev nD) : V m c main_v7 = transpose S2x4096 [1, 0] (sitofp (F := Ideal) .f32 (m ((c : Thread nD τ).loc main_arg3))) transposes_S4096x2_S2x4096_1_0 := by
  show StableHlo.after hostOps0 _ _ = _
  after_results

/-! ## The windows' blocks -/

theorem index1 (t : Fin cfg0.N) : win0_1.index t 0 = t.val % 4 ∧ win0_1.index t 1 = min (t.val / 4) 3 :=
  (by decide +kernel : ∀ t : Fin grid0.N, win0_1.index t 0 = t.val % 4 ∧ win0_1.index t 1 = min (t.val / 4) 3) t

theorem blk0_at (c : Dev nD) (t : Fin cfg0.N) (d : Fin 8192) (q : Fin 512) :
    (iblk m c 0 t : Vec Ideal S8192x512 .f32) (ix2 d q) = (V m c main_v1 : Vec Ideal S8192x512 .f32) (ix2 d q) := by
  unfold iblk
  rw [View.read_apply]
  refine congrArg (V m c main_v1 : Vec Ideal S8192x512 .f32) (funext fun a => Fin.ext ?_)
  match a with
  | ⟨0, _⟩ => show 0 * 8192 + 1 * d.val = d.val; omega
  | ⟨1, _⟩ => show 0 * 512 + 1 * q.val = q.val; omega

theorem blk2_at (c : Dev nD) (t : Fin cfg0.N) (d : Fin 2) (q : Fin 512) :
    (iblk m c 2 t : Vec Ideal S2x512 .f32) (ix2 d q) = (V m c main_v5 : Vec Ideal S2x512 .f32) (ix2 d q) := by
  unfold iblk
  rw [View.read_apply]
  refine congrArg (V m c main_v5 : Vec Ideal S2x512 .f32) (funext fun a => Fin.ext ?_)
  match a with
  | ⟨0, _⟩ => show 0 * 2 + 1 * d.val = d.val; omega
  | ⟨1, _⟩ => show 0 * 512 + 1 * q.val = q.val; omega

theorem blk3_at (c : Dev nD) (t : Fin cfg0.N) (d : Fin 2) (k : Fin 4096) :
    (iblk m c 3 t : Vec Ideal S2x4096 .f32) (ix2 d k) = (V m c main_v7 : Vec Ideal S2x4096 .f32) (ix2 d k) := by
  unfold iblk
  rw [View.read_apply]
  refine congrArg (V m c main_v7 : Vec Ideal S2x4096 .f32) (funext fun a => Fin.ext ?_)
  match a with
  | ⟨0, _⟩ => show 0 * 2 + 1 * d.val = d.val; omega
  | ⟨1, _⟩ => show 0 * 4096 + 1 * k.val = k.val; omega

theorem blk1_at (c : Dev nD) (t : Fin cfg0.N) (h : t.val < 16) (x : Fin 2048) (l : Fin 1024) :
    (iblk m c 1 t : Vec Ideal S2048x1024 .f32) (ix2 x l)
      = (V m c main_v3 : Vec Ideal S8192x4096 .f32) (ix2 (slice (t.val % 4) x) (colAt (t.val / 4) (by omega) l)) := by
  unfold iblk
  rw [View.read_apply]
  refine congrArg (V m c main_v3 : Vec Ideal S8192x4096 .f32) (funext fun a => Fin.ext ?_)
  obtain ⟨i0, i1⟩ := index1 t
  have := x.isLt
  match a with
  | ⟨0, _⟩ =>
    show win0_1.index t 0 * 2048 + 1 * x.val = (2048 * (t.val % 4) + x.val) % 8192
    rw [i0]; omega
  | ⟨1, _⟩ =>
    show win0_1.index t 1 * 1024 + 1 * l.val = 1024 * (t.val / 4) + l.val
    rw [i1]; omega

/-! ## The products of the slices -/

/-- The product of slice `i` of two descriptors. -/
def sliceProd (a : FVec Ideal S512x32x16x16 .f32) (b : FVec Ideal S4096x32x16x16 .f32) (i : ℕ) (q : Fin 512) (k : Fin 4096) : EReal :=
  ∑ x : Fin 2048, a (ix4 q (flatEquiv.symm (slice i x)).1 (flatEquiv.symm (slice i x)).2.1 (flatEquiv.symm (slice i x)).2.2)
    * b (ix4 k (flatEquiv.symm (slice i x)).1 (flatEquiv.symm (slice i x)).2.1 (flatEquiv.symm (slice i x)).2.2)

/-- The four slices' products give the similarity over all three axes. -/
theorem simP_sliceProd (a : FVec Ideal S512x32x16x16 .f32) (b : FVec Ideal S4096x32x16x16 .f32) (q : Fin 512) (k : Fin 4096) :
    simP (sliceProd a b) q k = (∑ x : Fin 32, ∑ y : Fin 16, ∑ z : Fin 16, a (ix4 q x y z) * b (ix4 k x y z))
      * Ideal.ofBits .f32 0x3B000000#32 + Ideal.ofBits .f32 0x3F000000#32 := by
  unfold simP sliceProd
  rw [sum_flat (fun x y z => a (ix4 q x y z) * b (ix4 k x y z)), sum_slices]

/-- A finite extended real is a real. -/
theorem finite_real (x : EReal) (h : max x (-x) < ⊤) : ∃ r : ℝ, x = (r : EReal) := by
  obtain ⟨h1, h2⟩ := max_lt_iff.1 h
  induction x with
  | bot => exact absurd h2 (by simp)
  | coe r => exact ⟨r, rfl⟩
  | top => exact absurd h1 (lt_irrefl _)

/-- A sum of reals is real. -/
theorem sum_real {ι : Type} (u : Finset ι) (f : ι → EReal) (hf : ∀ k, ∃ r : ℝ, f k = r) : ∃ r : ℝ, ∑ k ∈ u, f k = (r : EReal) :=
  Finset.sum_induction f (fun e => ∃ r : ℝ, e = (r : EReal)) (fun _ _ ⟨r, hr⟩ ⟨s, hs⟩ => ⟨r + s, by rw [hr, hs, EReal.coe_add]⟩)
    ⟨0, rfl⟩ fun k _ => hf k

/-- The product of two reals is real. -/
theorem mul_real (x y : EReal) (hx : ∃ r : ℝ, x = r) (hy : ∃ r : ℝ, y = r) : ∃ r : ℝ, x * y = (r : EReal) := by
  obtain ⟨r, rfl⟩ := hx
  obtain ⟨s, rfl⟩ := hy
  exact ⟨r * s, (EReal.coe_mul r s).symm⟩

/-- Finite descriptors have finite similarities. -/
theorem simP_bot (a : FVec Ideal S512x32x16x16 .f32) (b : FVec Ideal S4096x32x16x16 .f32)
    (ha : ∀ i, max (a i) (-(a i)) < ⊤) (hb : ∀ i, max (b i) (-(b i)) < ⊤) (q : Fin 512) (k : Fin 4096) :
    ⊥ < simP (sliceProd a b) q k := by
  obtain ⟨r, hr⟩ := sum_real (Finset.range 4) (fun i => sliceProd a b i q k) fun i =>
    sum_real _ _ fun _ => mul_real _ _ (finite_real _ (ha _)) (finite_real _ (hb _))
  unfold simP
  rw [hr, ofBits_scale, ofBits_half, ← EReal.coe_mul, ← EReal.coe_add]
  exact EReal.bot_lt_coe _

/-- The part the body forms at a point is its slice's product over its column block. -/
theorem part_at (c : Dev nD) (t : Fin cfg0.N) (h : t.val < 16) (q : Fin 512) (l : Fin 1024) :
    part (t.val % 4) (mod_lt t.val) (iblk m c 0 t) (iblk m c 1 t) (ix2 q l)
      = sliceProd (m ((c : Thread nD τ).loc main_arg0)) (m ((c : Thread nD τ).loc main_arg1)) (t.val % 4) q (colAt (t.val / 4) (by omega) l) := by
  unfold part
  refine (pay1_at _ _ q l).trans ?_
  unfold sliceProd
  refine Finset.sum_congr rfl fun x _ => ?_
  have e0 : VecWindow.window (iblk m c 0 t : Vec Ideal S8192x512 .f32) (offQ (t.val % 4)) S2048x512.size (inbQ (mod_lt t.val)) (ix2 x q)
      = (m ((c : Thread nD τ).loc main_arg0) : FVec Ideal S512x32x16x16 .f32) (ix4 q (flatEquiv.symm (slice (t.val % 4) x)).1 (flatEquiv.symm (slice (t.val % 4) x)).2.1 (flatEquiv.symm (slice (t.val % 4) x)).2.2) := by
    have := x.isLt
    refine (window_at (iblk m c 0 t : Vec Ideal S8192x512 .f32) (2048 * (t.val % 4)) 0 (inbQ (mod_lt t.val)) x q (slice (t.val % 4) x) q
      (by show (2048 * (t.val % 4) + x.val) % 8192 = _; omega) (by omega)).trans ?_
    rw [blk0_at, v1_eq]
    exact flat0_at _ _ _
  have e1 : (iblk m c 1 t : Vec Ideal S2048x1024 .f32) (ix2 x l)
      = (m ((c : Thread nD τ).loc main_arg1) : FVec Ideal S4096x32x16x16 .f32) (ix4 (colAt (t.val / 4) (by omega) l) (flatEquiv.symm (slice (t.val % 4) x)).1 (flatEquiv.symm (slice (t.val % 4) x)).2.1 (flatEquiv.symm (slice (t.val % 4) x)).2.2) := by
    rw [blk1_at m c t h, v3_eq]
    exact flat1_at _ _ _
  exact congrArg₂ (fun u v : EReal => u * v) e0 e1

end Cert.KernelIdeal.Hand
end
-- ==== Proof.Value.Final.lean ====
module

public import proofs.«01_k».proof.Proof.Value.Inv

@[expose] public section
set_option maxRecDepth 16384
noncomputable section
namespace Cert.KernelIdeal.Hand
open Idealize.ShloMosaic Idealize.ShloMosaic.TcCoe Idealize.ShloMosaic.Tactic
open Idealize.ShloMosaic.VecWindow
open Cert.KernelIdeal.Gen Cert.Val

/-! ## The result's four columns -/

theorem col_in (o : Vec Ideal S512x4 .f32) (c : Fin 4) (w : FVec Ideal S512x1 .f32) (q : Fin 512) :
    put o ![0, c.val] S512x1.size w (ix2 q c) = w (ix2 q 0) :=
  put_in o 0 c.val w q 0 q c (by omega) rfl

theorem col_out (o : Vec Ideal S512x4 .f32) (c : ℕ) (d : Fin 4) (w : FVec Ideal S512x1 .f32) (q : Fin 512) (h : d.val < c) :
    put o ![0, c] S512x1.size w (ix2 q d) = o (ix2 q d) :=
  put_out o 0 c w q d (Or.inl h)

theorem out_col0 (x2 : Vec Ideal S2x512 .f32) (x3 : Vec Ideal S2x4096 .f32) (s : St Ideal) (q : Fin 512) :
    outOf x2 x3 s (ix2 q 0) = s.stat (ix2 q 0) := by
  unfold outOf outCols
  refine (col_out _ 3 0 _ q (by decide)).trans ((col_out _ 2 0 _ q (by decide)).trans ((col_out _ 1 0 _ q (by decide)).trans
    ((col_in _ 0 _ q).trans (stat_win0 _ q))))

theorem out_col1 (x2 : Vec Ideal S2x512 .f32) (x3 : Vec Ideal S2x4096 .f32) (s : St Ideal) (q : Fin 512) :
    outOf x2 x3 s (ix2 q 1) = Ideal.div (s.stat (ix2 q 0))
      (k0_pay15 s.sims (window s.stat ![0, 1] S512x1.size inb_S512x2_S512x1_0_1) (window x3 ![0, 0] S1x4096.size inb_S2x4096_S1x4096_0_0)
        (window x3 ![1, 0] S1x4096.size inb_S2x4096_S1x4096_1_0) (ix2 q 0)) := by
  unfold outOf outCols
  refine (col_out _ 3 1 _ q (by decide)).trans ((col_out _ 2 1 _ q (by decide)).trans ((col_in _ 1 _ q).trans ((pay16_at _ _ q).trans ?_)))
  exact congrArg (fun v => Ideal.div v _) (stat_win0 _ q)

theorem out_col2 (x2 : Vec Ideal S2x512 .f32) (x3 : Vec Ideal S2x4096 .f32) (s : St Ideal) (q : Fin 512) :
    outOf x2 x3 s (ix2 q 2) = k0_pay17 (k0_pay14 (window s.stat ![0, 1] S512x1.size inb_S512x2_S512x1_0_1)) s.best
      (window x2 ![0, 0] S1x512.size inb_S2x512_S1x512_0_0) (window x2 ![1, 0] S1x512.size inb_S2x512_S1x512_1_0) (ix2 q 0) := by
  unfold outOf outCols
  exact (col_out _ 3 2 _ q (by decide)).trans (col_in _ 2 _ q)

theorem out_col3 (x2 : Vec Ideal S2x512 .f32) (x3 : Vec Ideal S2x4096 .f32) (s : St Ideal) (q : Fin 512) :
    outOf x2 x3 s (ix2 q 3) = ((((Ideal.fptosi 32 (s.stat (ix2 q 1))).toInt : ℝ)) : EReal) := by
  unfold outOf outCols
  refine (col_in _ 3 _ q).trans ((pay18_at _ q).trans ?_)
  exact congrArg (fun v => ((((Ideal.fptosi 32 v).toInt : ℝ)) : EReal)) (stat_win1 _ q)

/-! ## The choices by an index word -/

/-- The coordinate an index word names, where no coordinate lies below −1. -/
theorem pickF_at {n : ℕ} (hn : n ≤ 2 ^ 31) (i : Fin n) (d : Fin n → EReal) (hd : ((-1 : ℝ) : EReal) ≤ d i) :
    pickF (BitVec.ofNat 32 i.val) d = d i := by
  unfold pickF
  rw [ofBits_neg_inf, ofBits_neg_one]
  have e : (fun x : Fin n => Scalar.select (IntOp.cmpi .eq (BitVec.ofNat 32 x.val) (BitVec.ofNat 32 i.val)) (d x) ((-1 : ℝ) : EReal))
      = fun x => if x = i then d x else ((-1 : ℝ) : EReal) := funext fun x => select_cmpi_eq x i hn _ _
  rw [e]
  exact fold_max_pick d i _ hd

open Classical in
/-- The choice by both coordinates' nearness. -/
theorem near_select (a b : Fin 2 → EReal) (u v : EReal) :
    Scalar.select (IntOp.andi (BitVec.ofBool (decide (max (a 0 - b 0) (-(a 0 - b 0)) < Ideal.ofBits .f32 0x42800000#32)))
      (BitVec.ofBool (decide (max (a 1 - b 1) (-(a 1 - b 1)) < Ideal.ofBits .f32 0x42800000#32)))) u v
      = if Near a b then u else v := by
  have hn : Near a b ↔ max (a 0 - b 0) (-(a 0 - b 0)) < Ideal.ofBits .f32 0x42800000#32
      ∧ max (a 1 - b 1) (-(a 1 - b 1)) < Ideal.ofBits .f32 0x42800000#32 := by
    unfold Near
    exact Fin.forall_fin_two
  by_cases h0 : max (a 0 - b 0) (-(a 0 - b 0)) < Ideal.ofBits .f32 0x42800000#32
  · by_cases h1 : max (a 1 - b 1) (-(a 1 - b 1)) < Ideal.ofBits .f32 0x42800000#32
    · rw [if_pos (hn.2 ⟨h0, h1⟩), decide_eq_true h0, decide_eq_true h1]
      rfl
    · rw [if_neg (fun h => h1 (hn.1 h).2), decide_eq_true h0, decide_eq_false h1]
      rfl
  · rw [if_neg (fun h => h0 (hn.1 h).1), decide_eq_false h0]
    by_cases h1 : max (a 1 - b 1) (-(a 1 - b 1)) < Ideal.ofBits .f32 0x42800000#32
    · rw [decide_eq_true h1]
      rfl
    · rw [decide_eq_false h1]
      rfl

theorem coord_ge (w : BitVec 32) (h : 0 ≤ w.toInt) : ((-1 : ℝ) : EReal) ≤ ((w.toInt : ℝ) : EReal) := by
  rw [EReal.coe_le_coe_iff]
  have : (0 : ℝ) ≤ (w.toInt : ℝ) := by exact_mod_cast h
  linarith

/-! ## The result -/

variable (P : ℕ → Fin 512 → Fin 4096 → EReal)

/-- What the last point writes from a state the sixteen points before it leave. -/
theorem out_at (x2 : Vec Ideal S2x512 .f32) (x3 : Vec Ideal S2x4096 .f32) (s : St Ideal) (hs : Inv P 16 s)
    (y : IVec S512x2 32) (x : IVec S4096x2 32)
    (h2 : ∀ c q, x2 (ix2 c q) = (((y (ix2 q c)).toInt : ℝ) : EReal)) (h3 : ∀ c k, x3 (ix2 c k) = (((x (ix2 k c)).toInt : ℝ) : EReal))
    (hy : ∀ q c, 0 ≤ (y (ix2 q c)).toInt) (hx : ∀ k c, 0 ≤ (x (ix2 k c)).toInt)
    (I : Fin 512 → Fin 4096) (hI : ∀ q, FirstMax (simP P q) (I q))
    (R : Fin 4096 → Fin 512) (hR : ∀ k, FirstMax (fun q => simP P q k) (R k)) (q : Fin 512) :
    outOf x2 x3 s (ix2 q 0) = simP P q (I q)
    ∧ outOf x2 x3 s (ix2 q 1) = ratioSpec (simP P q) (fun k c => (((x (ix2 k c)).toInt : ℝ) : EReal)) (I q)
    ∧ outOf x2 x3 s (ix2 q 2) = distSpec (fun c => (((y (ix2 (R (I q)) c)).toInt : ℝ) : EReal)) (fun c => (((y (ix2 q c)).toInt : ℝ) : EReal))
    ∧ outOf x2 x3 s (ix2 q 3) = idxF (I q).val := by
  have hlt : ∀ k : Fin 4096, k.val < 1024 * (16 / 4) := fun k => k.isLt
  obtain ⟨i, -, s0, s1, s2, s3⟩ := hs.row (by norm_num) q
  have hi : i = I q := FirstMax.unique (f := simP P q) ⟨fun k => s2 k (hlt k), s3⟩ (hI q)
  subst hi
  have hI' := (I q).isLt
  have hword : Ideal.fptosi 32 (s.stat (ix2 q 1)) = BitVec.ofNat 32 (I q).val := by
    rw [s1]
    exact fptosi_sitofp _ (by omega)
  have hword' : Ideal.fptosi 32 (window s.stat ![0, 1] S512x1.size inb_S512x2_S512x1_0_1 (ix2 q 0)) = BitVec.ofNat 32 (I q).val :=
    (congrArg (Ideal.fptosi 32) (stat_win1 s.stat q)).trans hword
  have hsims : ∀ k, s.sims (ix2 q k) = simP P q k := fun k => hs.done q k (hlt k)
  have hx0 : ∀ k : Fin 4096, window x3 ![0, 0] S1x4096.size inb_S2x4096_S1x4096_0_0 (ix2 0 k) = (((x (ix2 k 0)).toInt : ℝ) : EReal) := fun k =>
    (window_at x3 0 0 inb_S2x4096_S1x4096_0_0 0 k 0 k rfl (by omega)).trans (h3 0 k)
  have hx1 : ∀ k : Fin 4096, window x3 ![1, 0] S1x4096.size inb_S2x4096_S1x4096_1_0 (ix2 0 k) = (((x (ix2 k 1)).toInt : ℝ) : EReal) := fun k =>
    (window_at x3 1 0 inb_S2x4096_S1x4096_1_0 0 k 1 k rfl (by omega)).trans (h3 1 k)
  have hy0 : ∀ k : Fin 512, window x2 ![0, 0] S1x512.size inb_S2x512_S1x512_0_0 (ix2 0 k) = (((y (ix2 k 0)).toInt : ℝ) : EReal) := fun k =>
    (window_at x2 0 0 inb_S2x512_S1x512_0_0 0 k 0 k rfl (by omega)).trans (h2 0 k)
  have hy1 : ∀ k : Fin 512, window x2 ![1, 0] S1x512.size inb_S2x512_S1x512_1_0 (ix2 0 k) = (((y (ix2 k 1)).toInt : ℝ) : EReal) := fun k =>
    (window_at x2 1 0 inb_S2x512_S1x512_1_0 0 k 1 k rfl (by omega)).trans (h2 1 k)
  refine ⟨(out_col0 _ _ _ q).trans s0, ?_, ?_, ?_⟩
  · rw [out_col1, s0]
    unfold ratioSpec
    refine congrArg (Ideal.div _) ((pay15_at _ _ _ _ q).trans ?_)
    rw [hword', ofBits_neg_inf]
    refine congrArg (fun f : Fin 4096 → EReal => Finset.fold max ⊥ f Finset.univ) (funext fun k => ?_)
    have p0 : pickF (BitVec.ofNat 32 (I q).val) (fun k : Fin 4096 => window x3 ![0, 0] S1x4096.size inb_S2x4096_S1x4096_0_0 (ix2 0 k))
        = (((x (ix2 (I q) 0)).toInt : ℝ) : EReal) :=
      (pickF_at (by norm_num) (I q) _ ((coord_ge _ (hx _ _)).trans_eq (hx0 _).symm)).trans (hx0 _)
    have p1 : pickF (BitVec.ofNat 32 (I q).val) (fun k : Fin 4096 => window x3 ![1, 0] S1x4096.size inb_S2x4096_S1x4096_1_0 (ix2 0 k))
        = (((x (ix2 (I q) 1)).toInt : ℝ) : EReal) :=
      (pickF_at (by norm_num) (I q) _ ((coord_ge _ (hx _ _)).trans_eq (hx1 _).symm)).trans (hx1 _)
    rw [p0, p1, hx0 k, hx1 k, hsims k]
    exact near_select (fun c => (((x (ix2 k c)).toInt : ℝ) : EReal)) (fun c => (((x (ix2 (I q) c)).toInt : ℝ) : EReal)) _ _
  · rw [out_col2]
    have hw : Finset.fold IntOp.minsi 2147483647#32 (fun k : Fin 4096 =>
        Scalar.select (IntOp.cmpi .eq (BitVec.ofNat 32 k.val)
          (Ideal.fptosi 32 (window s.stat ![0, 1] S512x1.size inb_S512x2_S512x1_0_1 (ix2 q 0)))) (s.best (ix2 0 k)) 512#32) Finset.univ
          = BitVec.ofNat 32 (R (I q)).val := by
      rw [hword']
      have e : (fun k : Fin 4096 => Scalar.select (IntOp.cmpi .eq (BitVec.ofNat 32 k.val) (BitVec.ofNat 32 (I q).val)) (s.best (ix2 0 k)) 512#32)
          = fun k => if k = I q then BitVec.ofNat 32 (R k).val else BitVec.ofNat 32 512 := funext fun k => by
        rw [select_cmpi_eq k (I q) (by norm_num)]
        obtain ⟨r, r1, r2⟩ := hs.col k (hlt k)
        rw [r2, r1.unique (hR k)]
      rw [e]
      exact fold_pick (fun k => (R k).val) (I q) 512 (R (I q)).isLt.le (by norm_num)
    rw [pay17_at _ _ _ _ q _ hw]
    have p0 : pickF (BitVec.ofNat 32 (R (I q)).val) (fun k : Fin 512 => window x2 ![0, 0] S1x512.size inb_S2x512_S1x512_0_0 (ix2 0 k))
        = (((y (ix2 (R (I q)) 0)).toInt : ℝ) : EReal) :=
      (pickF_at (by norm_num) (R (I q)) _ ((coord_ge _ (hy _ _)).trans_eq (hy0 _).symm)).trans (hy0 _)
    have p1 : pickF (BitVec.ofNat 32 (R (I q)).val) (fun k : Fin 512 => window x2 ![1, 0] S1x512.size inb_S2x512_S1x512_1_0 (ix2 0 k))
        = (((y (ix2 (R (I q)) 1)).toInt : ℝ) : EReal) :=
      (pickF_at (by norm_num) (R (I q)) _ ((coord_ge _ (hy _ _)).trans_eq (hy1 _).symm)).trans (hy1 _)
    rw [p0, p1, hy0 q, hy1 q]
    rfl
  · rw [out_col3, hword]
    rfl

end Cert.KernelIdeal.Hand
end
-- ==== Proof.Value.Launch.lean ====
/- The launch at an invariant every step keeps: the result array ends at what the last point writes, and the host cuts
   its four columns out. -/
module

public import proofs.«01_k».proof.Proof.Ideal.Body
public import Idealize.ShloMosaic.Lib.Pipeline.Value
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (I : Dev nD → ℕ → St F → Prop) (out : Dev nD → Vec F S512x4 .f32)

/-! ## The body's obligation -/

/-- What the body is called with, the output at anything. -/
def preV (c : Dev nD) (t : Fin cfg0.N) : sProp 𝕄 :=
  iprop((dats m I out 0 c).Φ t.castSucc ∗ (dats m I out 0 c).owesAt () t.castSucc
    ∗ (∃ d, owns (c : Thread nD τ) (sg0 t) fullShare ((dats m I out 0 c).before 0 t d))
    ∗ (∃ d, owns (c : Thread nD τ) (sg1 t) fullShare ((dats m I out 0 c).before 1 t d))
    ∗ (∃ d, owns (c : Thread nD τ) (sg2 t) fullShare ((dats m I out 0 c).before 2 t d))
    ∗ (∃ d, owns (c : Thread nD τ) (sg3 t) fullShare ((dats m I out 0 c).before 3 t d))
    ∗ (∃ d, owns (c : Thread nD τ) (sg4 t) fullShare ((dats m I out 0 c).before 4 t d)))

/-- What it hands back, the output's buffer as `leavesExact` tells. -/
def postV (c : Dev nD) (t : Fin cfg0.N) : sProp 𝕄 :=
  iprop((dats m I out 0 c).Φ t.succ ∗ (dats m I out 0 c).owesAt () t.succ
    ∗ owns (c : Thread nD τ) (sg0 t) fullShare ((dats m I out 0 c).after 0 t)
    ∗ owns (c : Thread nD τ) (sg1 t) fullShare ((dats m I out 0 c).after 1 t)
    ∗ owns (c : Thread nD τ) (sg2 t) fullShare ((dats m I out 0 c).after 2 t)
    ∗ owns (c : Thread nD τ) (sg3 t) fullShare ((dats m I out 0 c).after 3 t)
    ∗ (dats m I out 0 c).leavesExact 4 t)

/-- Before the last point the output is idle. -/
theorem idle_4 (t : Fin cfg0.N) (h : t.val < 16) : cfg0.idle 4 (cfg0.grid.coords t) = true := by
  have h5 : ¬k0_cond5 (grid0.coords t) = 1#1 := fun e => by have := (cond5_iff t).mp e; omega
  show (!(k0_cond5 (grid0.coords t) == 1#1)) = true
  simp [h5]

theorem live_4 (t : Fin cfg0.N) (h : ¬t.val < 16) : cfg0.idle 4 (cfg0.grid.coords t) = false := by
  have h5 : k0_cond5 (grid0.coords t) = 1#1 := (cond5_iff t).mpr (by have := point_lt t; omega)
  show (!(k0_cond5 (grid0.coords t) == 1#1)) = false
  rw [h5]; rfl

theorem flush_4 (t : Fin cfg0.N) (h : t.val < 16) : (cfg0.win 4).flush t = false := by
  rw [Bool.eq_false_iff]
  intro e
  have := (flush0_4 t).mp e
  omega

/-- The output's buffer at the end of a point: as it was before the last point, `out` at the last. -/
theorem leaves_4 (hOut : ∀ (c : Dev nD) (t : Fin cfg0.N) (s : St F), t.val = 16 → I c t.val s → outOf (iblk m c 2 t) (iblk m c 3 t) s = out c)
    (c : Dev nD) (t : Fin cfg0.N) (d : _) (s : St F) (hs : I c t.val s) :
    (owns (c : Thread nD τ) (sg4 t) fullShare (outAt t.val (iblk m c 2 t) (iblk m c 3 t) s ((dats m I out 0 c).before 4 t d)) : sProp 𝕄)
      ⊢ (dats m I out 0 c).leavesExact 4 t := by
  by_cases h : t.val < 16
  · rw [Dat.leavesExact_idle (dats m I out 0 c) 4 t (idle_4 t h) (flush_4 t h), show outAt t.val (iblk m c 2 t) (iblk m c 3 t) s ((dats m I out 0 c).before 4 t d) = (dats m I out 0 c).before 4 t d from if_pos h]
    iintro H
    iexists d
    iexact H
  · have e : outAt t.val (iblk m c 2 t) (iblk m c 3 t) s ((dats m I out 0 c).before 4 t d) = (dats m I out 0 c).after 4 t := by
      rw [after_4]
      exact (if_neg h).trans (hOut c t s (by have := point_lt t; omega) hs)
    rw [e]
    unfold Dat.leavesExact
    rw [live_4 t h]

/-- The body at any point, the output's buffer as the launch asks for it. -/
theorem sound_V (hI : ∀ (c : Dev nD) (t : Fin cfg0.N) (s : St F), I c t.val s → I c (t.val + 1) (step t.val (iblk m c 0 t) (iblk m c 1 t) s))
    (hOut : ∀ (c : Dev nD) (t : Fin cfg0.N) (s : St F), t.val = 16 → I c t.val s → outOf (iblk m c 2 t) (iblk m c 3 t) s = out c)
    (c : Dev nD) (t : Fin cfg0.N) :
    preV m I out c t ⊢ wp frame (wpE (defs₀ (F := F)) Variants.none c none) Set.univ (bodyAt0 t) (fun _ => postV m I out c t) := by
  have key := fun o => sound_point m I out hI c t o
  have hpre : preV m I out c t ⊢ iprop(∃ d, preAt m I out c t ((dats m I out 0 c).before 4 t d)) := by
    unfold preV preAt
    iintro ⟨HP, Ho, H0, H1, H2, H3, ⟨%d, H4⟩⟩
    iexists d
    isplitl [HP]; · iexact HP
    isplitl [Ho]; · iexact Ho
    isplitl [H0]; · iexact H0
    isplitl [H1]; · iexact H1
    isplitl [H2]; · iexact H2
    isplitl [H3]; · iexact H3
    iexact H4
  have hpost : ∀ d, postAt m I out c t ((dats m I out 0 c).before 4 t d) ⊢ postV m I out c t := by
    intro d
    unfold postV postAt
    iintro ⟨HP, Ho, H0, H1, H2, H3, ⟨%s, %hs, H4⟩⟩
    isplitl [HP]; · iexact HP
    isplitl [Ho]; · iexact Ho
    isplitl [H0]; · iexact H0
    isplitl [H1]; · iexact H1
    isplitl [H2]; · iexact H2
    isplitl [H3]; · iexact H3
    iapply (leaves_4 m I out hOut c t d s hs)
    iexact H4
  refine hpre.trans ?_
  iintro ⟨%d, H⟩
  iapply ((key _).trans ((wp frame (wpE (defs₀ (F := F)) Variants.none c none) Set.univ (bodyAt0 t)).mono (fun _ => hpost d)))
  iexact H

theorem obligation_V (hI : ∀ (c : Dev nD) (t : Fin cfg0.N) (s : St F), I c t.val s → I c (t.val + 1) (step t.val (iblk m c 0 t) (iblk m c 1 t) s))
    (hOut : ∀ (c : Dev nD) (t : Fin cfg0.N) (s : St F), t.val = 16 → I c t.val s → outOf (iblk m c 2 t) (iblk m c 3 t) s = out c)
    (c : Dev nD) : BodyObligation (dats m I out 0 c) (defs₀ (F := F)) Variants.none () Set.univ := fun t => by
  rw [bigSep_W0, bigSep_W0, defs_row]
  exact triple_restated (sound_V m I out hI hOut c t) rfl .rfl fun _ => .rfl

/-! ## The result array and the host's columns -/

theorem flushed_4 (c : Dev nD) (t : Fin cfg0.N) (hf : (cfg0.win 4).flush t = true) :
    (dats m I out 0 c).flushed 4 t = ((cfg0.win 4).blk t).view.read (Elt F) (out c) := by
  show (cfg0.win 4).cut (grid0.coords t) ((dats m I out 0 c).after 4 t) = _
  rw [after_4]
  have hz' : (fun a => win0_4.index t a * main_v8.ty.shape.size a) = fun _ => 0 := funext fun a => by fin_cases a <;> rfl
  exact (Memref.read_access_unit_zero (Elt F) main_v8 hz' (fun a => by rw [congrFun hz' a]; simp) (out c)).symm

/-- The last point. -/
def tLast : Fin cfg0.N := ⟨16, by show 16 < grid0.N; rw [N_0]; decide⟩

/-- The result array ends at `out`. -/
theorem final_4 (c : Dev nD) : (dats m I out 0 c).arrAt 4 cfg0.N = out c :=
  (dats m I out 0 c).arrAt_eq_of_cover 4 (out c) (flushed_4 m I out c) fun i =>
    ⟨tLast, (flush0_4 tLast).mpr rfl, by
      show i ∈ ((View.whole main_v8).slice (win0_4.rect tLast)).set
      rw [View.set_slice_whole, Rect.mem_set_unit]
      intro a
      have h0 : (i 0 : Nat) < 512 := (i 0).isLt
      have h1 : (i 1 : Nat) < 4 := (i 1).isLt
      match a with
      | ⟨0, _⟩ => show 0 ≤ (i 0 : Nat) ∧ (i 0 : Nat) < 0 + 512
                  omega
      | ⟨1, _⟩ => show 0 ≤ (i 1 : Nat) ∧ (i 1 : Nat) < 0 + 4
                  omega⟩

/-- Column `k` of the result array, as the host cuts it. -/
def column (k : ℕ) (h : S512x4.Slices ![0, k] S512x1) (o : Vec F S512x4 .f32) : FVec F S512 .f32 :=
  shapeCast S512 (extractStridedSlice S512x1 ![0, k] o h) shapeCasts_S512x1_S512

set_option backward.isDefEq.respectTransparency.types false in
set_option maxHeartbeats 800000 in
theorem run_V (hI0 : ∀ c s, I c 0 s) (hI : ∀ (c : Dev nD) (t : Fin cfg0.N) (s : St F), I c t.val s → I c (t.val + 1) (step t.val (iblk m c 0 t) (iblk m c 1 t) s))
    (hOut : ∀ (c : Dev nD) (t : Fin cfg0.N) (s : St F), t.val = 16 → I c t.val s → outOf (iblk m c 2 t) (iblk m c 3 t) s = out c) :
    θ_run defs (onTc (τ := τ) (main (F := F))) (s₀ m ρ)
      (fun r => Pipeline.FramePost cfgs (dats m I out) 0 (Pipeline.afterTail₀ cfgs (dats m I out) 0 (V0 m) [hostOps1]) r ∧ r.2.sem = fun _ => 0) :=
  Pipeline.θ_run_frame_around_track (Q' := _) cfgs (dats m I out) (0 : Fin 1) launch0 defs₀ Variants.none m ρ main
    (hbody := fun c => (obligation_V m I out hI hOut c).loose) (hshare := fun c => (dats m I out 0 c).share_full fun _ => rfl)
    (howed := fun _ _ => rfl) (V₀ := V0 m) (opss := [hostOps1]) (hsub := sfx_sub) (hfresh := sfx_fresh) (hkeep := sfx_keeps)
    (hmain := hmain m Variants.none) (hA := A_eq m I out) (hin := enter m I out hI0) (hout := leave m I out)

/-- What the host's operations after the launch leave at the four results. -/
theorem tail_values (W : Valuation τ sig (Elt F)) :
    StableHlo.after hostOps1 W (Proc.devRef .tc main_v10) = column 0 slices_S512x4_S512x1_0_0 (W (Proc.devRef .tc main_v8))
    ∧ StableHlo.after hostOps1 W (Proc.devRef .tc main_v12) = column 1 slices_S512x4_S512x1_0_1 (W (Proc.devRef .tc main_v8))
    ∧ StableHlo.after hostOps1 W (Proc.devRef .tc main_v14) = column 2 slices_S512x4_S512x1_0_2 (W (Proc.devRef .tc main_v8))
    ∧ StableHlo.after hostOps1 W (Proc.devRef .tc main_v17) = fptosi 32 (column 3 slices_S512x4_S512x1_0_3 (W (Proc.devRef .tc main_v8))) := by
  refine ⟨?_, ?_, ?_, ?_⟩
  · after_results
    rfl
  · after_results
    rfl
  · after_results
    rfl
  · after_results
    rfl

theorem array_8 (c : Dev nD) :
    Pipeline.withArrays (cfgs 0).spec c (V0 m c) (fun w => (dats m I out 0 c).arrAt w (cfgs 0).N) (Proc.devRef .tc main_v8) = out c :=
  (Dat.withArrays_arrAt (dats m I out 0 c) (by decide) (V0 m c) (A_eq m I out c) 4).trans (final_4 m I out c)

/-- The kernel's run: the four results at the columns of `out`, the arguments as they were. -/
theorem run_values (hI0 : ∀ c s, I c 0 s) (hI : ∀ (c : Dev nD) (t : Fin cfg0.N) (s : St F), I c t.val s → I c (t.val + 1) (step t.val (iblk m c 0 t) (iblk m c 1 t) s))
    (hOut : ∀ (c : Dev nD) (t : Fin cfg0.N) (s : St F), t.val = 16 → I c t.val s → outOf (iblk m c 2 t) (iblk m c 3 t) s = out c) :
    θ_run defs (onTc (τ := τ) (main (F := F))) ⟨m, fun _ => 0, ρ⟩ (fun r => ∀ c : Dev nD,
      r.2.mem ((c.tc : Thread nD τ).loc main_v10) = column 0 slices_S512x4_S512x1_0_0 (out c)
      ∧ r.2.mem ((c.tc : Thread nD τ).loc main_v12) = column 1 slices_S512x4_S512x1_0_1 (out c)
      ∧ r.2.mem ((c.tc : Thread nD τ).loc main_v14) = column 2 slices_S512x4_S512x1_0_2 (out c)
      ∧ r.2.mem ((c.tc : Thread nD τ).loc main_v17) = fptosi 32 (column 3 slices_S512x4_S512x1_0_3 (out c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨e0, e1, e2, e3⟩ := tail_values (Pipeline.withArrays (cfgs 0).spec c (V0 m c) (fun w => (dats m I out 0 c).arrAt w (cfgs 0).N))
    rw [array_8] at e0 e1 e2 e3
    exact ⟨((h.1 c).2 main_v10 (Pipeline.mem_restRefs_of main_v10 (by decide) (by decide))).trans e0,
      ((h.1 c).2 main_v12 (Pipeline.mem_restRefs_of main_v12 (by decide) (by decide))).trans e1,
      ((h.1 c).2 main_v14 (Pipeline.mem_restRefs_of main_v14 (by decide) (by decide))).trans e2,
      ((h.1 c).2 main_v17 (Pipeline.mem_restRefs_of main_v17 (by decide) (by decide))).trans e3,
      ((h.1 c).2 main_arg0 (Pipeline.mem_restRefs_of main_arg0 (by decide) (by decide))).trans (W_main_arg0 m (dats m I out) c),
      ((h.1 c).2 main_arg1 (Pipeline.mem_restRefs_of main_arg1 (by decide) (by decide))).trans (W_main_arg1 m (dats m I out) c),
      ((h.1 c).2 main_arg2 (Pipeline.mem_restRefs_of main_arg2 (by decide) (by decide))).trans (W_main_arg2 m (dats m I out) c),
      ((h.1 c).2 main_arg3 (Pipeline.mem_restRefs_of main_arg3 (by decide) (by decide))).trans (W_main_arg3 m (dats m I out) c)⟩) (run_V m ρ I out hI0 hI hOut)

/-- A column at a row. -/
theorem column_at (k : Fin 4) (h : S512x4.Slices ![0, k.val] S512x1) (o : Vec F S512x4 .f32) (q : Fin 512) :
    column k.val h o (ix1 q) = o (ix2 q k) := by
  unfold column
  pointwise

end Cert.KernelIdeal.Hand

end
-- ==== Proof.Value.RefRead.lean ====
module

public import proofs.«01_k».proof.Proof.Ref
public import proofs.«01_k».proof.Proof.Value.Math
public import Idealize.ShloMosaic.Lib.Routing.Ops

@[expose] public section
set_option maxRecDepth 16384
noncomputable section
namespace Cert.ReferenceIdeal.Hand
open Idealize.ShloMosaic Idealize.ShloMosaic.TcCoe Idealize.ShloMosaic.Tactic
open Cert.ReferenceIdeal Cert.ReferenceIdeal.Gen Cert.Val

/-! ## The reference's functions read at an index, at the extended reals -/

/-- An index of an equal shape. -/
def castIdx {s t : Shape} (h : s = t) (i : t.Idx) : s.Idx := h ▸ i

theorem cast_idx {s t : Shape} (h : s = t) (i : t.Idx) (a : Fin s.rank) (b : Fin t.rank) (hab : a.val = b.val) :
    (castIdx h i a).val = (i b).val := by
  subst h
  cases Fin.ext hab
  rfl

/-- A sum over the indices of a shape of three axes is the sum over the three coordinates. -/
theorem sum_three {n0 n1 n2 : ℕ} (s : Shape) (hs : s = ⟨3, ![n0, n1, n2]⟩) (f : s.Idx → EReal) :
    ∑ k, f k = ∑ x : Fin n0, ∑ y : Fin n1, ∑ z : Fin n2, f (castIdx hs (ix3 x y z)) := by
  subst hs
  exact sum_idx3 f

theorem dotA_at (a : FVec Ideal S512x32x16x16 .f32) (b : FVec Ideal S4096x32x16x16 .f32) (q : Fin 512) (k : Fin 4096) :
    Host.dotGeneral dot_S512x32x16x16_S4096x32x16x16_S512x4096_123_123_0_0_n_n none a b (ix2 q k)
      = ∑ x : Fin 32, ∑ y : Fin 16, ∑ z : Fin 16, a (ix4 q x y z) * b (ix4 k x y z) := by
  simp only [Host.dotGeneral]
  rw [Ideal.dotGeneral_apply]
  have hs : (dot_S512x32x16x16_S4096x32x16x16_S512x4096_123_123_0_0_n_n).contr = ⟨3, ![32, 16, 16]⟩ :=
    congrArg (Shape.mk 3) (funext fun i => by fin_cases i <;> rfl)
  refine (sum_three _ hs _).trans ?_
  refine Finset.sum_congr rfl fun x _ => Finset.sum_congr rfl fun y _ => Finset.sum_congr rfl fun z _ => ?_
  have h0 := cast_idx hs (ix3 x y z) ⟨0, by decide⟩ 0 rfl
  have h1 := cast_idx hs (ix3 x y z) ⟨1, by decide⟩ 1 rfl
  have h2 := cast_idx hs (ix3 x y z) ⟨2, by decide⟩ 2 rfl
  have hl : (dot_S512x32x16x16_S4096x32x16x16_S512x4096_123_123_0_0_n_n).lhsIdx (ix2 q k) (castIdx hs (ix3 x y z)) = ix4 q x y z := by
    funext i
    refine Fin.ext ?_
    fin_cases i
    · rfl
    · exact h0
    · exact h1
    · exact h2
  have hr : (dot_S512x32x16x16_S4096x32x16x16_S512x4096_123_123_0_0_n_n).rhsIdx (ix2 q k) (castIdx hs (ix3 x y z)) = ix4 k x y z := by
    funext i
    refine Fin.ext ?_
    fin_cases i
    · rfl
    · exact h0
    · exact h1
    · exact h2
  rw [hl, hr]

theorem dotB_at (a : FVec Ideal S512x32x16x16 .f32) (b : FVec Ideal S512x32x16x16 .f32) (q : Fin 512) (k : Fin 512) :
    Host.dotGeneral dot_S512x32x16x16_S512x32x16x16_S512x512_123_123_0_0_n_n none a b (ix2 q k)
      = ∑ x : Fin 32, ∑ y : Fin 16, ∑ z : Fin 16, a (ix4 q x y z) * b (ix4 k x y z) := by
  simp only [Host.dotGeneral]
  rw [Ideal.dotGeneral_apply]
  have hs : (dot_S512x32x16x16_S512x32x16x16_S512x512_123_123_0_0_n_n).contr = ⟨3, ![32, 16, 16]⟩ :=
    congrArg (Shape.mk 3) (funext fun i => by fin_cases i <;> rfl)
  refine (sum_three _ hs _).trans ?_
  refine Finset.sum_congr rfl fun x _ => Finset.sum_congr rfl fun y _ => Finset.sum_congr rfl fun z _ => ?_
  have h0 := cast_idx hs (ix3 x y z) ⟨0, by decide⟩ 0 rfl
  have h1 := cast_idx hs (ix3 x y z) ⟨1, by decide⟩ 1 rfl
  have h2 := cast_idx hs (ix3 x y z) ⟨2, by decide⟩ 2 rfl
  have hl : (dot_S512x32x16x16_S512x32x16x16_S512x512_123_123_0_0_n_n).lhsIdx (ix2 q k) (castIdx hs (ix3 x y z)) = ix4 q x y z := by
    funext i
    refine Fin.ext ?_
    fin_cases i
    · rfl
    · exact h0
    · exact h1
    · exact h2
  have hr : (dot_S512x32x16x16_S512x32x16x16_S512x512_123_123_0_0_n_n).rhsIdx (ix2 q k) (castIdx hs (ix3 x y z)) = ix4 k x y z := by
    funext i
    refine Fin.ext ?_
    fin_cases i
    · rfl
    · exact h0
    · exact h1
    · exact h2
  rw [hl, hr]

theorem simsOf_at (a : FVec Ideal S512x32x16x16 .f32) (b : FVec Ideal S4096x32x16x16 .f32) (q : Fin 512) (k : Fin 4096) :
    simsOf (F := Ideal) a b (ix2 q k) = (∑ x : Fin 32, ∑ y : Fin 16, ∑ z : Fin 16, a (ix4 q x y z) * b (ix4 k x y z))
      * Ideal.ofBits .f32 0x3B000000#32 + Ideal.ofBits .f32 0x3F000000#32 := by
  rw [← dotA_at, ← div_div_scale]
  rfl

theorem simsCyc_at (a b : FVec Ideal S512x32x16x16 .f32) (q k : Fin 512) :
    simsCyc (F := Ideal) a b (ix2 q k) = (∑ x : Fin 32, ∑ y : Fin 16, ∑ z : Fin 16, a (ix4 q x y z) * b (ix4 k x y z))
      * Ideal.ofBits .f32 0x3B000000#32 + Ideal.ofBits .f32 0x3F000000#32 := by
  rw [← dotB_at, ← div_div_scale]
  rfl

theorem maxOf_at (s : FVec Ideal S512x4096 .f32) (q : Fin 512) :
    maxOf (F := Ideal) s (ix1 q) = Finset.fold max ⊥ (fun k : Fin 4096 => s (ix2 q k)) Finset.univ := by
  rw [← ofBits_neg_inf]
  pointwise [maxOf]

/-- The reducer of the arg-max is the step of the fold. -/
theorem reducer_eq : (reducer_argmax_f32_i32 (F := Ideal)) = argStep := by
  funext a b
  unfold reducer_argmax_f32_i32 argStep
  simp only [Ideal.cmpf_def, Ideal.cmp]
  refine Prod.ext ?_ ?_
  · by_cases h : b.1 < a.1 <;> simp [Scalar.select, IntOp.ori, h]
  · by_cases h : b.1 < a.1 <;> by_cases h2 : a.1 = b.1 <;> cases h3 : a.2.slt b.2 <;>
      simp [Scalar.select, IntOp.ori, IntOp.andi, IntOp.cmpi, h, h2, h3]

/-- The column of a place of a matrix. -/
def colOf {n : ℕ} (i : (⟨2, ![512, n]⟩ : Shape).Idx) : Fin n := i 1

/-- The row `q` of a matrix as the arg-max meets it: its columns in order. -/
theorem rowFiber {n : ℕ} (s : FVec Ideal ⟨2, ![512, n]⟩ .f32) (h : (⟨2, ![512, n]⟩ : Shape).ReducesTo [1] ⟨1, ![512]⟩) (q : Fin 512) :
    ∃ l : List (Fin n), l.Pairwise (· < ·) ∧ (∀ k, k ∈ l) ∧
      Host.argReduceFiber s (iotaInDim ⟨2, ![512, n]⟩ 32 1) h (ix1 q) = l.map fun k => (s (ix2 q k), BitVec.ofNat 32 k.val) := by
  have hd : ∀ i : (⟨2, ![512, n]⟩ : Shape).Idx, h.drop i = ix1 q ↔ i 0 = q := by
    intro i
    constructor
    · intro e
      have := congrFun e 0
      exact Fin.ext (congrArg Fin.val this)
    · intro e
      funext a
      fin_cases a
      exact Fin.ext (congrArg Fin.val e)
  refine ⟨((List.finRange _).filter fun m => h.drop ((⟨2, ![512, n]⟩ : Shape).rowMajor.symm m) = ix1 q).map
    fun m => colOf ((⟨2, ![512, n]⟩ : Shape).rowMajor.symm m), ?_, ?_, ?_⟩
  · rw [List.pairwise_map]
    refine List.Pairwise.imp_of_mem ?_ (List.Pairwise.filter _ (List.pairwise_lt_finRange _))
    intro a b ha hb hab
    have h1 := (hd _).1 (of_decide_eq_true (List.mem_filter.1 ha).2)
    have h2 := (hd _).1 (of_decide_eq_true (List.mem_filter.1 hb).2)
    have va := Shape.rowMajor_val_two ((⟨2, ![512, n]⟩ : Shape).rowMajor.symm a)
    have vb := Shape.rowMajor_val_two ((⟨2, ![512, n]⟩ : Shape).rowMajor.symm b)
    rw [Equiv.apply_symm_apply, h1] at va
    rw [Equiv.apply_symm_apply, h2] at vb
    have hab' : a.val < b.val := hab
    have ca : (((⟨2, ![512, n]⟩ : Shape).rowMajor.symm a) 1).val = (colOf ((⟨2, ![512, n]⟩ : Shape).rowMajor.symm a)).val := rfl
    have cb : (((⟨2, ![512, n]⟩ : Shape).rowMajor.symm b) 1).val = (colOf ((⟨2, ![512, n]⟩ : Shape).rowMajor.symm b)).val := rfl
    rw [Fin.lt_def]
    omega
  · intro k
    refine List.mem_map.2 ⟨(⟨2, ![512, n]⟩ : Shape).rowMajor (ix2 q k), ?_, ?_⟩
    · rw [List.mem_filter]
      refine ⟨List.mem_finRange _, decide_eq_true ?_⟩
      rw [Equiv.symm_apply_apply, hd]
      rfl
    · rw [Equiv.symm_apply_apply]
      rfl
  · unfold Host.argReduceFiber
    rw [List.map_map]
    refine List.map_congr_left fun m hm => ?_
    have h1 := (hd _).1 (of_decide_eq_true (List.mem_filter.1 hm).2)
    have e : (⟨2, ![512, n]⟩ : Shape).rowMajor.symm m = ix2 q (colOf ((⟨2, ![512, n]⟩ : Shape).rowMajor.symm m)) :=
      (eq_ix2 _).trans (congrArg (fun r => ix2 r (colOf ((⟨2, ![512, n]⟩ : Shape).rowMajor.symm m))) h1)
    show (s ((⟨2, ![512, n]⟩ : Shape).rowMajor.symm m), _) = _
    refine Prod.ext ?_ rfl
    exact congrArg s e

theorem argmaxOf_at (s : FVec Ideal S512x4096 .f32) (q : Fin 512) (i : Fin 4096) (hi : FirstMax (fun k => s (ix2 q k)) i) :
    argmaxOf (F := Ideal) s (ix1 q) = BitVec.ofNat 32 i.val := by
  unfold argmaxOf
  show (Host.argReduce reducer_argmax_f32_i32 s (iotaInDim S512x4096 32 1) (constant S_ .f32 0xFF800000#32) (constantI S_ 32 0#32) reducesTo_S512x4096_S512_d1 h_S_ (ix1 q)).2 = _
  rw [Ideal.argReduce_eq_reduce2, Host.reduce2_eq_foldl_fiber]
  obtain ⟨l, h1, h2, h3⟩ := rowFiber s reducesTo_S512x4096_S512_d1 q
  have h4 := foldl_argStep_all (by norm_num) (fun k => s (ix2 q k)) l h1 h2 i hi
  rw [← h3, ← reducer_eq, ← ofBits_neg_inf] at h4
  exact h4

theorem argmaxCyc_at (s : FVec Ideal S512x512 .f32) (q : Fin 512) (i : Fin 512) (hi : FirstMax (fun k => s (ix2 q k)) i) :
    argmaxCyc (F := Ideal) s (ix1 q) = BitVec.ofNat 32 i.val := by
  unfold argmaxCyc
  show (Host.argReduce reducer_argmax_f32_i32 s (iotaInDim S512x512 32 1) (constant S_ .f32 0xFF800000#32) (constantI S_ 32 0#32) reducesTo_S512x512_S512_d1 h_S_ (ix1 q)).2 = _
  rw [Ideal.argReduce_eq_reduce2, Host.reduce2_eq_foldl_fiber]
  obtain ⟨l, h1, h2, h3⟩ := rowFiber s reducesTo_S512x512_S512_d1 q
  have h4 := foldl_argStep_all (by norm_num) (fun k => s (ix2 q k)) l h1 h2 i hi
  rw [← h3, ← reducer_eq, ← ofBits_neg_inf] at h4
  exact h4

/-! ## Taking rows by index -/

theorem cmpi_slt_zero (i : ℕ) (h : i < 2 ^ 31) : IntOp.cmpi .slt (BitVec.ofNat 32 i) 0#32 = 0#1 := by
  have : (BitVec.ofNat 32 i).slt 0#32 = false := by
    simp only [BitVec.slt, toInt_ofNat_small i h]; simp
  simp only [IntOp.cmpi, this]; rfl

theorem cmpi_sge_zero (i : ℕ) (h : i < 2 ^ 31) : IntOp.cmpi .sge (BitVec.ofNat 32 i) 0#32 = 1#1 := by
  have : (0#32).sle (BitVec.ofNat 32 i) = true := by
    simp only [BitVec.sle, toInt_ofNat_small i h]; simp
  simp only [IntOp.cmpi, this]; rfl

theorem cmpi_sle (i n : ℕ) (h : i ≤ n) (hn : n < 2 ^ 31) : IntOp.cmpi .sle (BitVec.ofNat 32 i) (BitVec.ofNat 32 n) = 1#1 := by
  have : (BitVec.ofNat 32 i).sle (BitVec.ofNat 32 n) = true := by
    simp only [BitVec.sle, toInt_ofNat_small i (by omega), toInt_ofNat_small n hn, decide_eq_true_eq]; omega
  simp only [IntOp.cmpi, this]; rfl

/-- An index as the reference wraps it: below zero it counts from the end. -/
def wrapOf (w : IVec S512 32) (N : BitVec 32) : IVec S512 32 :=
  select ((cmpi .slt) w ((broadcastInDim S512 ![] bcast_S_S512) (constantI S_ 32 0#32)))
    (addi w ((broadcastInDim S512 ![] bcast_S_S512) (constantI S_ 32 N))) w

theorem wrapOf_at (w : IVec S512 32) (N : BitVec 32) (q : Fin 512) (i : ℕ) (h : i < 2 ^ 31) (hw : w (ix1 q) = BitVec.ofNat 32 i) :
    wrapOf w N (ix1 q) = BitVec.ofNat 32 i := by
  show Scalar.select (IntOp.cmpi .slt (w (ix1 q)) 0#32) (IntOp.addi (w (ix1 q)) N) (w (ix1 q)) = _
  rw [hw, cmpi_slt_zero i h]
  rfl

/-- Those indices as a column. -/
def idxCol (W : IVec S512 32) : IVec S512x1 32 := (broadcastInDim S512x1 ![0] bcast_S512_S512x1_0) W

theorem idxCol_at (W : IVec S512 32) (q : Fin 512) : idxCol W (ix2 q 0) = W (ix1 q) := by
  pointwise [idxCol]

/-- Whether an index is in range. -/
def maskOf (C : IVec S512x1 32) (K : BitVec 32) : IVec S512 1 :=
  (fun x v => Host.reduce IntOp.andi x v reducesTo_S512x1_S512_d1 h_S_)
    (andi ((cmpi .sge) C ((broadcastInDim S512x1 ![] bcast_S_S512x1) (constantI S_ 32 0#32)))
      ((cmpi .sle) C ((broadcastInDim S512x1 ![0, 1] bcast_S1x1_S512x1_0_1) ((broadcastInDim S1x1 ![1] bcast_S1_S1x1_1) (constantI S1 32 K)))))
    (constantI S_ 1 1#1)

theorem maskOf_at (C : IVec S512x1 32) (n : ℕ) (q : Fin 512) (i : ℕ) (hi : i ≤ n) (hn : n < 2 ^ 31)
    (hC : C (ix2 q 0) = BitVec.ofNat 32 i) : maskOf C (BitVec.ofNat 32 n) (ix1 q) = 1#1 := by
  have e : maskOf C (BitVec.ofNat 32 n) (ix1 q) = Finset.fold IntOp.andi 1#1 (fun x : Fin 1 =>
      IntOp.andi (IntOp.cmpi .sge (C (ix2 q x)) 0#32) (IntOp.cmpi .sle (C (ix2 q x)) (BitVec.ofNat 32 n))) Finset.univ := by
    pointwise [maskOf]
  rw [e, Finset.univ_unique, Finset.fold_singleton]
  have hd : (default : Fin 1) = 0 := rfl
  rw [hd, hC, cmpi_sge_zero i (by omega), cmpi_sle i n hi hn]
  rfl

/-- The gather of a family of descriptors: at the word of `i`, descriptor `i`. -/
theorem gatherFt_at (x : FVec Ideal S4096x32x16x16 .f32) (C : IVec S512x1 32) (q : Fin 512) (c : Fin 32) (y z : Fin 16) (i : Fin 4096)
    (hC : C (ix2 q 0) = BitVec.ofNat 32 i.val) :
    Host.gather gather_S4096x32x16x16_S512x1_S512x32x16x16_123_0_n_n_0_1_1321616 x C (ix4 q c y z) = x (ix4 i c y z) := by
  have hi := i.isLt
  unfold Host.gather
  refine congrArg x (funext fun a => Fin.ext ?_)
  have h0 : (min (C (ix2 q 0)).toInt.toNat 4095) = i.val := by
    rw [hC, toInt_ofNat_small i.val (by omega)]
    omega
  fin_cases a
  · refine Eq.trans ?_ h0
    show (GatherDims.start _ (ix4 q c y z) C 0) + 0 + 0 = _
    rw [Nat.add_zero]
    unfold GatherDims.start
    rw [dif_pos (show (0 : Fin S4096x32x16x16.rank) ∈ gather_S4096x32x16x16_S512x1_S512x32x16x16_123_0_n_n_0_1_1321616.startIndexMap from List.mem_singleton.2 rfl)]
    have hsi : GatherDims.siIdx gather_S4096x32x16x16_S512x1_S512x32x16x16_123_0_n_n_0_1_1321616 (ix4 q c y z) ⟨List.idxOf (0 : Fin S4096x32x16x16.rank) gather_S4096x32x16x16_S512x1_S512x32x16x16_123_0_n_n_0_1_1321616.startIndexMap, List.idxOf_lt_length_iff.2 (List.mem_singleton.2 rfl)⟩ = ix2 q 0 := by
      funext b
      refine Fin.ext ?_
      fin_cases b <;> rfl
    exact congrArg (fun j => min (C j).toInt.toNat 4095) hsi
  · show 0 + 0 + c.val = c.val
    omega
  · show 0 + 0 + y.val = y.val
    omega
  · show 0 + 0 + z.val = z.val
    omega

/-- The word of a row read signed. -/
theorem takePt1_at (x : IVec S4096x2 32) (w : IVec S512 32) (q : Fin 512) (c : Fin 2) (i : Fin 4096)
    (hw : w (ix1 q) = BitVec.ofNat 32 i.val) :
    takePt1 (F := Ideal) x w (ix2 q c) = x (ix2 i c) := by
  have hi := i.isLt
  have hC : idxCol (wrapOf w 4096#32) (ix2 q 0) = BitVec.ofNat 32 i.val :=
    (idxCol_at _ _).trans (wrapOf_at w _ q i.val (by omega) hw)
  have hM : (broadcastInDim S512x2 ![0] bcast_S512_S512x2_0 (maskOf (idxCol (wrapOf w 4096#32)) 4095#32)) (ix2 q c) = 1#1 := by
    refine Eq.trans ?_ (maskOf_at _ 4095 q i.val (by omega) (by norm_num) hC)
    generalize maskOf (idxCol (wrapOf w 4096#32)) 4095#32 = M
    pointwise
  show Scalar.select ((broadcastInDim S512x2 ![0] bcast_S512_S512x2_0 (maskOf (idxCol (wrapOf w 4096#32)) 4095#32)) (ix2 q c))
    (Host.gather gather_S4096x2_S512x1_S512x2_1_0_n_n_0_1_12 x (idxCol (wrapOf w 4096#32)) (ix2 q c)) _ = _
  rw [hM]
  exact Routing.gather_row gather_S4096x2_S512x1_S512x2_1_0_n_n_0_1_12 rfl rfl rfl rfl rfl x _ q c i hC (by norm_num)

theorem takePt0_at (x : IVec S512x2 32) (w : IVec S512 32) (q : Fin 512) (c : Fin 2) (i : Fin 512)
    (hw : w (ix1 q) = BitVec.ofNat 32 i.val) :
    takePt0 (F := Ideal) x w (ix2 q c) = x (ix2 i c) := by
  have hi := i.isLt
  have hC : idxCol (wrapOf w 512#32) (ix2 q 0) = BitVec.ofNat 32 i.val :=
    (idxCol_at _ _).trans (wrapOf_at w _ q i.val (by omega) hw)
  have hM : (broadcastInDim S512x2 ![0] bcast_S512_S512x2_0 (maskOf (idxCol (wrapOf w 512#32)) 511#32)) (ix2 q c) = 1#1 := by
    refine Eq.trans ?_ (maskOf_at _ 511 q i.val (by omega) (by norm_num) hC)
    generalize maskOf (idxCol (wrapOf w 512#32)) 511#32 = M
    pointwise
  show Scalar.select ((broadcastInDim S512x2 ![0] bcast_S512_S512x2_0 (maskOf (idxCol (wrapOf w 512#32)) 511#32)) (ix2 q c))
    (Host.gather gather_S512x2_S512x1_S512x2_1_0_n_n_0_1_12 x (idxCol (wrapOf w 512#32)) (ix2 q c)) _ = _
  rw [hM]
  exact Routing.gather_row gather_S512x2_S512x1_S512x2_1_0_n_n_0_1_12 rfl rfl rfl rfl rfl x _ q c i hC (by norm_num)

theorem takeFt1_at (x : FVec Ideal S4096x32x16x16 .f32) (w : IVec S512 32) (q : Fin 512) (c : Fin 32) (y z : Fin 16) (i : Fin 4096)
    (hw : w (ix1 q) = BitVec.ofNat 32 i.val) :
    takeFt1 (F := Ideal) x w (ix4 q c y z) = x (ix4 i c y z) := by
  have hi := i.isLt
  have hC : idxCol (wrapOf w 4096#32) (ix2 q 0) = BitVec.ofNat 32 i.val :=
    (idxCol_at _ _).trans (wrapOf_at w _ q i.val (by omega) hw)
  have hM : (broadcastInDim S512x32x16x16 ![0] bcast_S512_S512x32x16x16_0 (maskOf (idxCol (wrapOf w 4096#32)) 4095#32)) (ix4 q c y z) = 1#1 := by
    refine Eq.trans ?_ (maskOf_at _ 4095 q i.val (by omega) (by norm_num) hC)
    generalize maskOf (idxCol (wrapOf w 4096#32)) 4095#32 = M
    pointwise
  show Scalar.select ((broadcastInDim S512x32x16x16 ![0] bcast_S512_S512x32x16x16_0 (maskOf (idxCol (wrapOf w 4096#32)) 4095#32)) (ix4 q c y z))
    (Host.gather gather_S4096x32x16x16_S512x1_S512x32x16x16_123_0_n_n_0_1_1321616 x (idxCol (wrapOf w 4096#32)) (ix4 q c y z)) _ = _
  rw [hM]
  exact gatherFt_at x _ q c y z i hC

end Cert.ReferenceIdeal.Hand
end
-- ==== Proof.Value.RefVal.lean ====
module

public import proofs.«01_k».proof.Proof.Value.RefRead
public import proofs.«01_k».proof.Proof.Value.Math

@[expose] public section
set_option maxRecDepth 16384
noncomputable section
namespace Cert.ReferenceIdeal.Hand
open Idealize.ShloMosaic Idealize.ShloMosaic.TcCoe Idealize.ShloMosaic.Tactic
open Cert.ReferenceIdeal Cert.ReferenceIdeal.Gen Cert.Val

/-! ## The ratio and the distance read at a row -/

theorem red2_at (A : FVec Ideal S512x4096x2 .f32) (q : Fin 512) (k : Fin 4096) :
    Host.reduce FloatOps.maximumf A (constant S_ .f32 0xFF800000#32) reducesTo_S512x4096x2_S512x4096_d2 h_S_ (ix2 q k)
      = Finset.fold max (Ideal.ofBits .f32 0xFF800000#32) (fun x : Fin 2 => A (ix3 q k x)) Finset.univ := by
  pointwise

/-- The points of the second family against the matched ones, a coordinate of a pair. -/
def diffArr (x : IVec S4096x2 32) (m : IVec S512x2 32) : FVec Ideal S512x4096x2 .f32 :=
  Host.absf (subf (broadcastInDim S512x4096x2 ![0, 1, 2] bcast_S1x4096x2_S512x4096x2_0_1_2 (sitofp .f32 (broadcastInDim S1x4096x2 ![1, 2] bcast_S4096x2_S1x4096x2_1_2 x))) (broadcastInDim S512x4096x2 ![0, 1, 2] bcast_S512x1x2_S512x4096x2_0_1_2 (sitofp .f32 (broadcastInDim S512x1x2 ![0, 2] bcast_S512x2_S512x1x2_0_2 m))))

theorem diffArr_at (x : IVec S4096x2 32) (m : IVec S512x2 32) (q : Fin 512) (k : Fin 4096) (c : Fin 2) :
    diffArr x m (ix3 q k c) = FloatOps.absf (F := Ideal) (φ := .f32) ((((x (ix2 k c)).toInt : ℝ) : EReal) - (((m (ix2 q c)).toInt : ℝ) : EReal)) := by
  pointwise [diffArr]
  rfl
theorem distOf_at (a b : IVec S512x2 32) (q : Fin 512) :
   distOf (F := Ideal) a b (ix1 q) = Ideal.sqrt (∑ x : Fin 2, ((((IntOp.subi (a (ix2 q x)) (b (ix2 q x))).toInt : ℝ) : EReal) * (((IntOp.subi (a (ix2 q x)) (b (ix2 q x))).toInt : ℝ) : EReal))) := by
  pointwise [distOf]
  rfl

/-- A pair's greater coordinate distance. -/
def gapArr (x : IVec S4096x2 32) (m : IVec S512x2 32) : FVec Ideal S512x4096 .f32 :=
  Host.reduce FloatOps.maximumf (diffArr x m) (constant S_ .f32 0xFF800000#32) reducesTo_S512x4096x2_S512x4096_d2 h_S_

theorem gapArr_at (x : IVec S4096x2 32) (m : IVec S512x2 32) (q : Fin 512) (k : Fin 4096) :
    gapArr x m (ix2 q k) = Finset.fold max ⊥ (fun c : Fin 2 => diffArr x m (ix3 q k c)) Finset.univ := by
  rw [← ofBits_neg_inf]
  exact red2_at _ q k

/-- A choice by a comparison read at a pair. -/
theorem sel_at (x y z w : FVec Ideal S512x4096 .f32) (i : S512x4096.Idx) :
    select (cmpf .olt x y) z w i = Scalar.select (Ideal.cmp .olt (x i) (y i)) (z i) (w i) := rfl

/-- A constant spread over the pairs. -/
theorem spread_at (b : BitVec 32) (i : S512x4096.Idx) :
    broadcastInDim S512x4096 ![] bcast_S_S512x4096 (constant (F := Ideal) S_ .f32 b) i = Ideal.ofBits .f32 b := rfl

/-- The similarities with those near the matched point at zero. -/
def awayArr (s : FVec Ideal S512x4096 .f32) (x : IVec S4096x2 32) (m : IVec S512x2 32) : FVec Ideal S512x4096 .f32 :=
  select (cmpf .olt (gapArr x m)
      (broadcastInDim S512x4096 ![] bcast_S_S512x4096 (constant S_ .f32 0x42800000#32))) ((broadcastInDim S512x4096 ![] bcast_S_S512x4096) (id (constant S_ .f32 0x00000000#32))) s

theorem ratio_away (s : FVec Ideal S512x4096 .f32) (r : FVec Ideal S512 .f32) (x : IVec S4096x2 32) (m : IVec S512x2 32) :
    ratioOf (F := Ideal) s r x m = Host.divf (F := Ideal) (φ := .f32) r (maxOf (F := Ideal) (awayArr s x m)) := by
  unfold ratioOf maxOf awayArr gapArr diffArr
  rfl

theorem divf_at (a b : FVec Ideal S512 .f32) (q : Fin 512) : Host.divf a b (ix1 q) = Ideal.div (a (ix1 q)) (b (ix1 q)) := rfl

open Classical in
theorem awayArr_at (s : FVec Ideal S512x4096 .f32) (x : IVec S4096x2 32) (m : IVec S512x2 32) (q : Fin 512) (k : Fin 4096) :
    awayArr s x m (ix2 q k) = if Near (fun c => (((x (ix2 k c)).toInt : ℝ) : EReal)) (fun c => (((m (ix2 q c)).toInt : ℝ) : EReal)) then 0 else s (ix2 q k) := by
  have e : awayArr s x m (ix2 q k) = Scalar.select (Ideal.cmp .olt (gapArr x m (ix2 q k))
      (Ideal.ofBits .f32 0x42800000#32)) (Ideal.ofBits .f32 0x00000000#32) (s (ix2 q k)) := by
    unfold awayArr
    refine (sel_at _ _ _ _ _).trans ?_
    exact congrArg₂ (fun u v : EReal => Scalar.select (Ideal.cmp .olt (gapArr x m (ix2 q k)) u) v (s (ix2 q k))) (spread_at _ _) (spread_at _ _)
  rw [e, gapArr_at, Ideal.ofBits_zero_f32]
  have hn : (Finset.fold max ⊥ (fun c : Fin 2 => diffArr x m (ix3 q k c)) Finset.univ < Ideal.ofBits .f32 0x42800000#32)
      ↔ Near (fun c => (((x (ix2 k c)).toInt : ℝ) : EReal)) (fun c => (((m (ix2 q c)).toInt : ℝ) : EReal)) := by
    rw [Finset.fold_max_lt]
    constructor
    · intro h c
      have := h.2 c (Finset.mem_univ c)
      rw [diffArr_at] at this
      exact this
    · intro h
      refine ⟨ofBits_64_pos, fun c _ => ?_⟩
      rw [diffArr_at]
      exact h c
  by_cases h : Near (fun c => (((x (ix2 k c)).toInt : ℝ) : EReal)) (fun c => (((m (ix2 q c)).toInt : ℝ) : EReal))
  · rw [if_pos h]
    have h' := hn.2 h
    simp only [Ideal.cmp, h', decide_true]
    rfl
  · rw [if_neg h]
    have h' : ¬ _ := fun c => h (hn.1 c)
    simp only [Ideal.cmp, h', decide_false]
    rfl

open Classical in
theorem ratioOf_at (s : FVec Ideal S512x4096 .f32) (r : FVec Ideal S512 .f32) (x : IVec S4096x2 32) (m : IVec S512x2 32) (q : Fin 512) :
    ratioOf (F := Ideal) s r x m (ix1 q) = Ideal.div (r (ix1 q)) (Finset.univ.fold max ⊥ fun k : Fin 4096 =>
      if Near (fun c => (((x (ix2 k c)).toInt : ℝ) : EReal)) (fun c => (((m (ix2 q c)).toInt : ℝ) : EReal)) then 0 else s (ix2 q k)) := by
  rw [ratio_away, divf_at, maxOf_at]
  exact congrArg (fun f : Fin 4096 → EReal => Ideal.div (r (ix1 q)) (Finset.fold max ⊥ f Finset.univ)) (funext fun k => awayArr_at s x m q k)

/-! ## The reference's four results -/

/-- The similarity of two descriptors. -/
def simVal (a : FVec Ideal S512x32x16x16 .f32) (b : FVec Ideal S4096x32x16x16 .f32) (q : Fin 512) (k : Fin 4096) : EReal :=
  (∑ x : Fin 32, ∑ y : Fin 16, ∑ z : Fin 16, a (ix4 q x y z) * b (ix4 k x y z))
    * Ideal.ofBits .f32 0x3B000000#32 + Ideal.ofBits .f32 0x3F000000#32

open Classical in
theorem away_congr (A B C : Fin 2 → EReal) (u v : EReal) (h : B = C) (e : u = v) :
    (if Near A B then 0 else u) = if Near A C then 0 else v := by
  rw [h, e]

/-- The reference's results in terms of the rows' and the columns' first best places. -/
theorem ref_results (a : FVec Ideal S512x32x16x16 .f32) (b : FVec Ideal S4096x32x16x16 .f32) (y : IVec S512x2 32) (x : IVec S4096x2 32)
    (hy : ∀ q c, 0 ≤ (y (ix2 q c)).toInt)
    (I : Fin 512 → Fin 4096) (hI : ∀ q, FirstMax (simVal a b q) (I q))
    (R : Fin 4096 → Fin 512) (hR : ∀ k, FirstMax (fun q => simVal a b q k) (R k)) (q : Fin 512) :
    res0 (F := Ideal) a b (ix1 q) = simVal a b q (I q)
    ∧ res1 (F := Ideal) a b x (ix1 q) = ratioSpec (simVal a b q) (fun k c => (((x (ix2 k c)).toInt : ℝ) : EReal)) (I q)
    ∧ res2 (F := Ideal) a b y (ix1 q) = distSpec (fun c => (((y (ix2 (R (I q)) c)).toInt : ℝ) : EReal)) (fun c => (((y (ix2 q c)).toInt : ℝ) : EReal))
    ∧ ixsOf (F := Ideal) a b (ix1 q) = BitVec.ofNat 32 (I q).val := by
  have hix : ∀ q, ixsOf (F := Ideal) a b (ix1 q) = BitVec.ofNat 32 (I q).val := fun q =>
    argmaxOf_at _ q (I q) ((hI q).congr fun k => simsOf_at a b q k)
  have h0 : res0 (F := Ideal) a b (ix1 q) = simVal a b q (I q) := by
    unfold res0
    rw [maxOf_at]
    have : (fun k : Fin 4096 => simsOf (F := Ideal) a b (ix2 q k)) = simVal a b q := funext fun k => simsOf_at a b q k
    rw [this]
    exact fold_max_eq _ _ (hI q).1
  refine ⟨h0, ?_, ?_, hix q⟩
  · have e : ∀ c, takePt1 (F := Ideal) x (ixsOf (F := Ideal) a b) (ix2 q c) = x (ix2 (I q) c) := fun c => takePt1_at x _ q c (I q) (hix q)
    have e' : res1 (F := Ideal) a b x (ix1 q)
        = ratioOf (F := Ideal) (simsOf (F := Ideal) a b) (res0 (F := Ideal) a b) x (takePt1 (F := Ideal) x (ixsOf (F := Ideal) a b)) (ix1 q) := rfl
    rw [e', ratioOf_at, h0]
    unfold ratioSpec
    refine congrArg (fun f : Fin 4096 → EReal => Ideal.div (simVal a b q (I q)) (Finset.fold max ⊥ f Finset.univ)) (funext fun k => ?_)
    exact away_congr _ _ _ _ _ (funext fun c => congrArg (fun v : BitVec 32 => ((v.toInt : ℝ) : EReal)) (e c)) (simsOf_at a b q k)
  · unfold res2
    rw [distOf_at]
    have hc : argmaxCyc (F := Ideal) (simsCyc (takeFt1 b (ixsOf a b)) a) (ix1 q) = BitVec.ofNat 32 (R (I q)).val := by
      refine argmaxCyc_at _ q _ ((hR (I q)).congr fun k => ?_)
      refine (simsCyc_at _ _ q k).trans ?_
      unfold simVal
      refine congrArg (fun v : EReal => v * Ideal.ofBits .f32 0x3B000000#32 + Ideal.ofBits .f32 0x3F000000#32) ?_
      refine Finset.sum_congr rfl fun x _ => Finset.sum_congr rfl fun y _ => Finset.sum_congr rfl fun z _ => ?_
      have ht := takeFt1_at b (ixsOf (F := Ideal) a b) q x y z (I q) (hix q)
      exact (congrArg (fun v : EReal => v * a (ix4 k x y z)) ht).trans (mul_comm _ _)
    rw [Fin.sum_univ_two, takePt0_at y _ q 0 _ hc, takePt0_at y _ q 1 _ hc, sitofp_subi _ _ (hy _ _) (hy _ _), sitofp_subi _ _ (hy _ _) (hy _ _)]
    unfold distSpec
    rfl

end Cert.ReferenceIdeal.Hand
end
-- ==== Proof.Value.Result.lean ====
/- The kernel's four results are the reference's, at finite descriptors and points that are not negative. -/
module

public import proofs.«01_k».proof.Proof.Value.Blocks
public import proofs.«01_k».proof.Proof.Value.Final
public import proofs.«01_k».proof.Proof.Value.Launch
public import proofs.«01_k».proof.Proof.Value.RefVal

@[expose] public section
set_option maxRecDepth 16384
noncomputable section
namespace Cert.KernelIdeal.Hand
open Idealize.ShloMosaic Idealize.ShloMosaic.TcCoe Idealize.ShloMosaic.Tactic
open Idealize.SL Idealize.SL.Sem
open Cert.KernelIdeal.Gen Cert.Val
open Cert.ReferenceIdeal.Hand (simVal res0 res1 res2 ixsOf ref_results)

variable (m : (ℓ : Loc nD τ sig) → Buf (Elt Ideal) ℓ) (ρ : Dev nD → PrngReg)

/-- The four arguments on a device. -/
abbrev argA (c : Dev nD) : FVec Ideal S512x32x16x16 .f32 := m ((c.tc : Thread nD τ).loc main_arg0)
abbrev argB (c : Dev nD) : FVec Ideal S4096x32x16x16 .f32 := m ((c.tc : Thread nD τ).loc main_arg1)
abbrev argY (c : Dev nD) : IVec S512x2 32 := m ((c.tc : Thread nD τ).loc main_arg2)
abbrev argX (c : Dev nD) : IVec S4096x2 32 := m ((c.tc : Thread nD τ).loc main_arg3)

/-- The slices' products on a device. -/
abbrev prods (c : Dev nD) : ℕ → Fin 512 → Fin 4096 → EReal := sliceProd (argA m c) (argB m c)

/-- The state between points: after point 15 nothing changes. -/
def stateAt (c : Dev nD) (n : ℕ) (s : St Ideal) : Prop := Inv (prods m c) (min n 16) s

theorem stateAt_zero (c : Dev nD) (s : St Ideal) : stateAt m c 0 s := inv_zero _ s

/-- Every point keeps the invariant, at finite descriptors. -/
theorem stateAt_step (ha : ∀ c i, max (argA m c i) (-(argA m c i)) < ⊤) (hb : ∀ c i, max (argB m c i) (-(argB m c i)) < ⊤)
    (c : Dev nD) (t : Fin cfg0.N) (s : St Ideal) (h : stateAt m c t.val s) :
    stateAt m c (t.val + 1) (step t.val (iblk m c 0 t) (iblk m c 1 t) s) := by
  unfold stateAt at h ⊢
  by_cases hn : t.val < 16
  · rw [Nat.min_eq_left (by omega)] at h
    rw [Nat.min_eq_left (by omega)]
    exact inv_step (prods m c) t.val (iblk m c 0 t) (iblk m c 1 t) (fun hn q l => part_at m c t hn q l)
      (fun q k => simP_bot (argA m c) (argB m c) (ha c) (hb c) q k) hn s h
  · rw [Nat.min_eq_right (by omega)] at h ⊢
    rw [show step t.val (iblk m c 0 t) (iblk m c 1 t) s = s from by unfold step; rw [dif_neg hn]]
    exact h

/-- The query's best training descriptor. -/
def bestOf (c : Dev nD) (q : Fin 512) : Fin 4096 := (exists_firstMax (by norm_num) (simP (prods m c) q)).choose
theorem bestOf_spec (c : Dev nD) (q : Fin 512) : FirstMax (simP (prods m c) q) (bestOf m c q) :=
  (exists_firstMax (by norm_num) (simP (prods m c) q)).choose_spec

/-- The training descriptor's best query. -/
def backOf (c : Dev nD) (k : Fin 4096) : Fin 512 := (exists_firstMax (by norm_num) fun q => simP (prods m c) q k).choose
theorem backOf_spec (c : Dev nD) (k : Fin 4096) : FirstMax (fun q => simP (prods m c) q k) (backOf m c k) :=
  (exists_firstMax (by norm_num) fun q => simP (prods m c) q k).choose_spec

/-- The four columns the last point writes. -/
def colsAt (c : Dev nD) (q : Fin 512) : Fin 4 → EReal :=
  ![simP (prods m c) q (bestOf m c q),
    ratioSpec (simP (prods m c) q) (fun k d => (((argX m c (ix2 k d)).toInt : ℝ) : EReal)) (bestOf m c q),
    distSpec (fun d => (((argY m c (ix2 (backOf m c (bestOf m c q)) d)).toInt : ℝ) : EReal)) (fun d => (((argY m c (ix2 q d)).toInt : ℝ) : EReal)),
    idxF (bestOf m c q).val]
def outV (c : Dev nD) : Vec Ideal S512x4 .f32 := fun i => colsAt m c (i 0) (i 1)

/-- The last point writes them. -/
theorem outV_eq (hy : ∀ c i, 0 ≤ (argY m c i).toInt) (hx : ∀ c i, 0 ≤ (argX m c i).toInt)
    (c : Dev nD) (t : Fin cfg0.N) (s : St Ideal) (ht : t.val = 16) (h : stateAt m c t.val s) :
    outOf (iblk m c 2 t) (iblk m c 3 t) s = outV m c := by
  unfold stateAt at h
  rw [ht] at h
  have key := out_at (prods m c) (iblk m c 2 t) (iblk m c 3 t) s h (argY m c) (argX m c)
    (fun d q => (blk2_at m c t d q).trans ((congrFun (v5_eq m c) _).trans (turn0_at _ d q)))
    (fun d k => (blk3_at m c t d k).trans ((congrFun (v7_eq m c) _).trans (turn1_at _ d k)))
    (fun q d => hy c _) (fun k d => hx c _) (bestOf m c) (bestOf_spec m c) (backOf m c) (backOf_spec m c)
  funext i
  rw [eq_ix2 i]
  obtain ⟨k0, k1, k2, k3⟩ := key (i 0)
  generalize i 0 = q at *
  generalize i 1 = d
  match d with
  | ⟨0, _⟩ => exact k0
  | ⟨1, _⟩ => exact k1
  | ⟨2, _⟩ => exact k2
  | ⟨3, _⟩ => exact k3

/-- The similarity the kernel forms is the reference's. -/
theorem simP_simVal (c : Dev nD) (q : Fin 512) (k : Fin 4096) : simP (prods m c) q k = simVal (argA m c) (argB m c) q k :=
  simP_sliceProd _ _ q k

/-- The host's columns of the last point's result are the reference's four results. -/
theorem columns_eq (hy : ∀ c i, 0 ≤ (argY m c i).toInt) (c : Dev nD) :
    column 0 slices_S512x4_S512x1_0_0 (outV m c) = res0 (F := Ideal) (argA m c) (argB m c)
    ∧ column 1 slices_S512x4_S512x1_0_1 (outV m c) = res1 (F := Ideal) (argA m c) (argB m c) (argX m c)
    ∧ column 2 slices_S512x4_S512x1_0_2 (outV m c) = res2 (F := Ideal) (argA m c) (argB m c) (argY m c)
    ∧ fptosi 32 (column 3 slices_S512x4_S512x1_0_3 (outV m c)) = ixsOf (F := Ideal) (argA m c) (argB m c) := by
  have hs : ∀ q, simP (prods m c) q = simVal (argA m c) (argB m c) q := fun q => funext fun k => simP_simVal m c q k
  have key := ref_results (argA m c) (argB m c) (argY m c) (argX m c) (fun q d => hy c _)
    (bestOf m c) (fun q => (bestOf_spec m c q).congr fun k => (simP_simVal m c q k).symm)
    (backOf m c) (fun k => (backOf_spec m c k).congr fun q => (simP_simVal m c q k).symm)
  refine ⟨funext fun i => ?_, funext fun i => ?_, funext fun i => ?_, funext fun i => ?_⟩
  · rw [eq_ix1 i]
    exact (column_at 0 _ _ _).trans ((simP_simVal m c _ _).trans (key (i 0)).1.symm)
  · rw [eq_ix1 i]
    refine (column_at 1 _ _ _).trans (Eq.trans ?_ (key (i 0)).2.1.symm)
    exact congrArg (fun S => ratioSpec S (fun k d => (((argX m c (ix2 k d)).toInt : ℝ) : EReal)) (bestOf m c (i 0))) (hs (i 0))
  · rw [eq_ix1 i]
    exact (column_at 2 _ _ _).trans (key (i 0)).2.2.1.symm
  · rw [eq_ix1 i]
    refine Eq.trans ?_ (key (i 0)).2.2.2.symm
    have h := (bestOf m c (i 0)).isLt
    exact (congrArg (Ideal.fptosi 32) (column_at 3 _ (outV m c) (i 0))).trans (fptosi_sitofp _ (by omega))

/-- The kernel's run at finite descriptors and points that are not negative: the reference's four results, the arguments
    as they were. -/
theorem run_ref (ha : ∀ c i, max (argA m c i) (-(argA m c i)) < ⊤) (hb : ∀ c i, max (argB m c i) (-(argB m c i)) < ⊤)
    (hy : ∀ c i, 0 ≤ (argY m c i).toInt) (hx : ∀ c i, 0 ≤ (argX m c i).toInt) :
    θ_run defs (onTc (τ := τ) (main (F := Ideal))) ⟨m, fun _ => 0, ρ⟩ (fun r => ∀ c : Dev nD,
      r.2.mem ((c.tc : Thread nD τ).loc main_v10) = res0 (F := Ideal) (argA m c) (argB m c)
      ∧ r.2.mem ((c.tc : Thread nD τ).loc main_v12) = res1 (F := Ideal) (argA m c) (argB m c) (argX m c)
      ∧ r.2.mem ((c.tc : Thread nD τ).loc main_v14) = res2 (F := Ideal) (argA m c) (argB m c) (argY m c)
      ∧ r.2.mem ((c.tc : Thread nD τ).loc main_v17) = ixsOf (F := Ideal) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨e0, e1, e2, e3⟩ := columns_eq m hy c
    obtain ⟨h0, h1, h2, h3, k⟩ := h c
    exact ⟨h0.trans e0, h1.trans e1, h2.trans e2, h3.trans e3, k⟩)
    (run_values m ρ (stateAt m) (outV m) (stateAt_zero m) (stateAt_step m ha hb) (outV_eq m hy hx))

end Cert.KernelIdeal.Hand

end
-- ==== Proof.lean ====
module

public import proofs.«01_k».proof.Defs
public import proofs.«01_k».proof.Proof.Word.Frame
public import proofs.«01_k».proof.Proof.Ideal.Frame
public import proofs.«01_k».proof.Proof.Ref
public import proofs.«01_k».proof.Proof.Value.Pre
public import proofs.«01_k».proof.Proof.Value.Result

@[expose] public section

noncomputable section

namespace Cert.Proof

open Idealize.ShloMosaic Idealize.SL.Sem Cert.Kernel

/-- At exact arithmetic the kernel and the reference end with the same four results. -/
theorem algebraic :
    Cert.algebraic_KernelIdeal_ReferenceIdeal_pre_in_range (hKernelIdeal := Cert.KernelIdeal.Gen.facts)
      (hReferenceIdeal := Cert.ReferenceIdeal.Gen.facts) (hPre_in_range := Cert.Pre_in_range.Gen.facts) := by
  intro m g m' g' hpre hagree
  have hp := fun c => Cert.Pre_in_range.Hand.fn_holds _ _ _ _ (hpre c)
  refine ⟨_, _, _, _, Cert.KernelIdeal.Hand.run_ref m g (fun c => (hp c).1) (fun c => (hp c).2.1) (fun c => (hp c).2.2.1) (fun c => (hp c).2.2.2), ?_⟩
  refine (θ_run _ _ _).mono (fun r h c => ?_) (Cert.ReferenceIdeal.Hand.run_main m' g')
  obtain ⟨⟨h0, h1, h2, h3⟩, k⟩ := h.1 c
  obtain ⟨a0, a1, a2, a3⟩ := hagree c
  rw [a0, a1] at h0 h3
  rw [a0, a1, a3] at h1
  rw [a0, a1, a2] at h2
  exact ⟨h0, h1, h2, h3, k⟩

/-- Everything claimed. -/
theorem claim : Cert.Claim :=
  ⟨Cert.Kernel.Gen.facts, Cert.KernelIdeal.Gen.facts, Cert.ReferenceIdeal.Gen.facts, Cert.Pre_in_range.Gen.facts,
    fun m g _ => Cert.Kernel.Hand.frame_all m g, fun m g _ => Cert.KernelIdeal.Hand.frame_all m g,
    fun m g _ => Cert.KernelIdeal.Hand.frame_all m g,
    fun m g _ => Cert.ReferenceIdeal.Hand.frame_all m g, fun m g _ => Cert.ReferenceIdeal.Hand.frame_all m g,
    trivial, algebraic⟩

end Cert.Proof

end
